-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_ok [hPre_gates_ok : Cert.Pre_gates_ok.Facts] (m : (ℓ : Loc Cert.KernelIdeal.nD Cert.KernelIdeal.τ Cert.KernelIdeal.sig) → Buf (Elt Ideal) ℓ) : Prop :=
  ∀ c : Dev Cert.KernelIdeal.nD,
    (Cert.Pre_gates_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_gates_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_ok [hPre_gates_ok : Cert.Pre_gates_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_gates_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2 = (fun _ => 1#1)

def Pre_KernelGlobal (m : (ℓ : Loc Cert.KernelGlobal.nD Cert.KernelGlobal.τ Cert.KernelGlobal.sig) → Buf (Elt Bits) ℓ) : Prop :=
  True

def Pre_KernelGlobalIdeal (m : (ℓ : Loc Cert.KernelGlobalIdeal.nD Cert.KernelGlobalIdeal.τ Cert.KernelGlobalIdeal.sig) → Buf (Elt Ideal) ℓ) : Prop :=
  True

def Pre_KernelGlobalIdeal_scores_finite [hPre_scores_finite : Cert.Pre_scores_finite.Facts] (m : (ℓ : Loc Cert.KernelGlobalIdeal.nD Cert.KernelGlobalIdeal.τ Cert.KernelGlobalIdeal.sig) → Buf (Elt Ideal) ℓ) : Prop :=
  ∀ c : Dev Cert.KernelGlobalIdeal.nD,
    (Cert.Pre_scores_finite.fn (F := Ideal) (m ((c.tc : Thread Cert.KernelGlobalIdeal.nD Cert.KernelGlobalIdeal.τ).loc Cert.KernelGlobalIdeal.main_arg0)) (m ((c.tc : Thread Cert.KernelGlobalIdeal.nD Cert.KernelGlobalIdeal.τ).loc Cert.KernelGlobalIdeal.main_arg1)) (m ((c.tc : Thread Cert.KernelGlobalIdeal.nD Cert.KernelGlobalIdeal.τ).loc Cert.KernelGlobalIdeal.main_arg2)) (m ((c.tc : Thread Cert.KernelGlobalIdeal.nD Cert.KernelGlobalIdeal.τ).loc Cert.KernelGlobalIdeal.main_arg3))).1 = (fun _ => 1#1)
    ∧ (Cert.Pre_scores_finite.fn (F := Ideal) (m ((c.tc : Thread Cert.KernelGlobalIdeal.nD Cert.KernelGlobalIdeal.τ).loc Cert.KernelGlobalIdeal.main_arg0)) (m ((c.tc : Thread Cert.KernelGlobalIdeal.nD Cert.KernelGlobalIdeal.τ).loc Cert.KernelGlobalIdeal.main_arg1)) (m ((c.tc : Thread Cert.KernelGlobalIdeal.nD Cert.KernelGlobalIdeal.τ).loc Cert.KernelGlobalIdeal.main_arg2)) (m ((c.tc : Thread Cert.KernelGlobalIdeal.nD Cert.KernelGlobalIdeal.τ).loc Cert.KernelGlobalIdeal.main_arg3))).2.1 = (fun _ => 1#1)
    ∧ (Cert.Pre_scores_finite.fn (F := Ideal) (m ((c.tc : Thread Cert.KernelGlobalIdeal.nD Cert.KernelGlobalIdeal.τ).loc Cert.KernelGlobalIdeal.main_arg0)) (m ((c.tc : Thread Cert.KernelGlobalIdeal.nD Cert.KernelGlobalIdeal.τ).loc Cert.KernelGlobalIdeal.main_arg1)) (m ((c.tc : Thread Cert.KernelGlobalIdeal.nD Cert.KernelGlobalIdeal.τ).loc Cert.KernelGlobalIdeal.main_arg2)) (m ((c.tc : Thread Cert.KernelGlobalIdeal.nD Cert.KernelGlobalIdeal.τ).loc Cert.KernelGlobalIdeal.main_arg3))).2.2 = (fun _ => 1#1)

def Pre_ReferenceGlobalIdeal (m : (ℓ : Loc Cert.ReferenceGlobalIdeal.nD Cert.ReferenceGlobalIdeal.τ Cert.ReferenceGlobalIdeal.sig) → Buf (Elt Ideal) ℓ) : Prop :=
  True

def Pre_ReferenceGlobalIdeal_scores_finite [hPre_scores_finite : Cert.Pre_scores_finite.Facts] (m : (ℓ : Loc Cert.ReferenceGlobalIdeal.nD Cert.ReferenceGlobalIdeal.τ Cert.ReferenceGlobalIdeal.sig) → Buf (Elt Ideal) ℓ) : Prop :=
  ∀ c : Dev Cert.ReferenceGlobalIdeal.nD,
    (Cert.Pre_scores_finite.fn (F := Ideal) (m ((c.tc : Thread Cert.ReferenceGlobalIdeal.nD Cert.ReferenceGlobalIdeal.τ).loc Cert.ReferenceGlobalIdeal.main_arg0)) (m ((c.tc : Thread Cert.ReferenceGlobalIdeal.nD Cert.ReferenceGlobalIdeal.τ).loc Cert.ReferenceGlobalIdeal.main_arg1)) (m ((c.tc : Thread Cert.ReferenceGlobalIdeal.nD Cert.ReferenceGlobalIdeal.τ).loc Cert.ReferenceGlobalIdeal.main_arg2)) (m ((c.tc : Thread Cert.ReferenceGlobalIdeal.nD Cert.ReferenceGlobalIdeal.τ).loc Cert.ReferenceGlobalIdeal.main_arg3))).1 = (fun _ => 1#1)
    ∧ (Cert.Pre_scores_finite.fn (F := Ideal) (m ((c.tc : Thread Cert.ReferenceGlobalIdeal.nD Cert.ReferenceGlobalIdeal.τ).loc Cert.ReferenceGlobalIdeal.main_arg0)) (m ((c.tc : Thread Cert.ReferenceGlobalIdeal.nD Cert.ReferenceGlobalIdeal.τ).loc Cert.ReferenceGlobalIdeal.main_arg1)) (m ((c.tc : Thread Cert.ReferenceGlobalIdeal.nD Cert.ReferenceGlobalIdeal.τ).loc Cert.ReferenceGlobalIdeal.main_arg2)) (m ((c.tc : Thread Cert.ReferenceGlobalIdeal.nD Cert.ReferenceGlobalIdeal.τ).loc Cert.ReferenceGlobalIdeal.main_arg3))).2.1 = (fun _ => 1#1)
    ∧ (Cert.Pre_scores_finite.fn (F := Ideal) (m ((c.tc : Thread Cert.ReferenceGlobalIdeal.nD Cert.ReferenceGlobalIdeal.τ).loc Cert.ReferenceGlobalIdeal.main_arg0)) (m ((c.tc : Thread Cert.ReferenceGlobalIdeal.nD Cert.ReferenceGlobalIdeal.τ).loc Cert.ReferenceGlobalIdeal.main_arg1)) (m ((c.tc : Thread Cert.ReferenceGlobalIdeal.nD Cert.ReferenceGlobalIdeal.τ).loc Cert.ReferenceGlobalIdeal.main_arg2)) (m ((c.tc : Thread Cert.ReferenceGlobalIdeal.nD Cert.ReferenceGlobalIdeal.τ).loc Cert.ReferenceGlobalIdeal.main_arg3))).2.2 = (fun _ => 1#1)

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelFirst (m : (ℓ : Loc Cert.KernelFirst.nD Cert.KernelFirst.τ Cert.KernelFirst.sig) → Buf (Elt Bits) ℓ) : Prop :=
  True

def Pre_KernelFirstIdeal (m : (ℓ : Loc Cert.KernelFirstIdeal.nD Cert.KernelFirstIdeal.τ Cert.KernelFirstIdeal.sig) → Buf (Elt Ideal) ℓ) : Prop :=
  True

def Pre_KernelFirstIdeal_scores_finite_first [hPre_scores_finite_first : Cert.Pre_scores_finite_first.Facts] (m : (ℓ : Loc Cert.KernelFirstIdeal.nD Cert.KernelFirstIdeal.τ Cert.KernelFirstIdeal.sig) → Buf (Elt Ideal) ℓ) : Prop :=
  ∀ c : Dev Cert.KernelFirstIdeal.nD,
    (Cert.Pre_scores_finite_first.fn (F := Ideal) (m ((c.tc : Thread Cert.KernelFirstIdeal.nD Cert.KernelFirstIdeal.τ).loc Cert.KernelFirstIdeal.main_arg0)) (m ((c.tc : Thread Cert.KernelFirstIdeal.nD Cert.KernelFirstIdeal.τ).loc Cert.KernelFirstIdeal.main_arg1)) (m ((c.tc : Thread Cert.KernelFirstIdeal.nD Cert.KernelFirstIdeal.τ).loc Cert.KernelFirstIdeal.main_arg2))).1 = (fun _ => 1#1)
    ∧ (Cert.Pre_scores_finite_first.fn (F := Ideal) (m ((c.tc : Thread Cert.KernelFirstIdeal.nD Cert.KernelFirstIdeal.τ).loc Cert.KernelFirstIdeal.main_arg0)) (m ((c.tc : Thread Cert.KernelFirstIdeal.nD Cert.KernelFirstIdeal.τ).loc Cert.KernelFirstIdeal.main_arg1)) (m ((c.tc : Thread Cert.KernelFirstIdeal.nD Cert.KernelFirstIdeal.τ).loc Cert.KernelFirstIdeal.main_arg2))).2.1 = (fun _ => 1#1)
    ∧ (Cert.Pre_scores_finite_first.fn (F := Ideal) (m ((c.tc : Thread Cert.KernelFirstIdeal.nD Cert.KernelFirstIdeal.τ).loc Cert.KernelFirstIdeal.main_arg0)) (m ((c.tc : Thread Cert.KernelFirstIdeal.nD Cert.KernelFirstIdeal.τ).loc Cert.KernelFirstIdeal.main_arg1)) (m ((c.tc : Thread Cert.KernelFirstIdeal.nD Cert.KernelFirstIdeal.τ).loc Cert.KernelFirstIdeal.main_arg2))).2.2 = (fun _ => 1#1)

def Pre_ReferenceFirstIdeal (m : (ℓ : Loc Cert.ReferenceFirstIdeal.nD Cert.ReferenceFirstIdeal.τ Cert.ReferenceFirstIdeal.sig) → Buf (Elt Ideal) ℓ) : Prop :=
  True

def Pre_ReferenceFirstIdeal_scores_finite_first [hPre_scores_finite_first : Cert.Pre_scores_finite_first.Facts] (m : (ℓ : Loc Cert.ReferenceFirstIdeal.nD Cert.ReferenceFirstIdeal.τ Cert.ReferenceFirstIdeal.sig) → Buf (Elt Ideal) ℓ) : Prop :=
  ∀ c : Dev Cert.ReferenceFirstIdeal.nD,
    (Cert.Pre_scores_finite_first.fn (F := Ideal) (m ((c.tc : Thread Cert.ReferenceFirstIdeal.nD Cert.ReferenceFirstIdeal.τ).loc Cert.ReferenceFirstIdeal.main_arg0)) (m ((c.tc : Thread Cert.ReferenceFirstIdeal.nD Cert.ReferenceFirstIdeal.τ).loc Cert.ReferenceFirstIdeal.main_arg1)) (m ((c.tc : Thread Cert.ReferenceFirstIdeal.nD Cert.ReferenceFirstIdeal.τ).loc Cert.ReferenceFirstIdeal.main_arg2))).1 = (fun _ => 1#1)
    ∧ (Cert.Pre_scores_finite_first.fn (F := Ideal) (m ((c.tc : Thread Cert.ReferenceFirstIdeal.nD Cert.ReferenceFirstIdeal.τ).loc Cert.ReferenceFirstIdeal.main_arg0)) (m ((c.tc : Thread Cert.ReferenceFirstIdeal.nD Cert.ReferenceFirstIdeal.τ).loc Cert.ReferenceFirstIdeal.main_arg1)) (m ((c.tc : Thread Cert.ReferenceFirstIdeal.nD Cert.ReferenceFirstIdeal.τ).loc Cert.ReferenceFirstIdeal.main_arg2))).2.1 = (fun _ => 1#1)
    ∧ (Cert.Pre_scores_finite_first.fn (F := Ideal) (m ((c.tc : Thread Cert.ReferenceFirstIdeal.nD Cert.ReferenceFirstIdeal.τ).loc Cert.ReferenceFirstIdeal.main_arg0)) (m ((c.tc : Thread Cert.ReferenceFirstIdeal.nD Cert.ReferenceFirstIdeal.τ).loc Cert.ReferenceFirstIdeal.main_arg1)) (m ((c.tc : Thread Cert.ReferenceFirstIdeal.nD Cert.ReferenceFirstIdeal.τ).loc Cert.ReferenceFirstIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_gates_ok [hKernelIdeal : Cert.KernelIdeal.Facts] [hPre_gates_ok : Cert.Pre_gates_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_gates_ok [hReferenceIdeal : Cert.ReferenceIdeal.Facts] [hPre_gates_ok : Cert.Pre_gates_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_KernelGlobal [hKernelGlobal : Cert.KernelGlobal.Facts] : Prop :=
  ∀ (m : (ℓ : Loc Cert.KernelGlobal.nD Cert.KernelGlobal.τ Cert.KernelGlobal.sig) → Buf (Elt Bits) ℓ) (g : Dev Cert.KernelGlobal.nD → PrngReg), Pre_KernelGlobal m →
    θ_run (Cert.KernelGlobal.defs (F := Bits)) (onTc (τ := Cert.KernelGlobal.τ) (Cert.KernelGlobal.main (F := Bits))) ⟨m, fun _ => 0, g⟩ (fun r => (∀ c : Dev Cert.KernelGlobal.nD,
      r.2.mem ((c.tc : Thread Cert.KernelGlobal.nD Cert.KernelGlobal.τ).loc Cert.KernelGlobal.main_arg0) = m ((c.tc : Thread Cert.KernelGlobal.nD Cert.KernelGlobal.τ).loc Cert.KernelGlobal.main_arg0)
      ∧ r.2.mem ((c.tc : Thread Cert.KernelGlobal.nD Cert.KernelGlobal.τ).loc Cert.KernelGlobal.main_arg1) = m ((c.tc : Thread Cert.KernelGlobal.nD Cert.KernelGlobal.τ).loc Cert.KernelGlobal.main_arg1)
      ∧ r.2.mem ((c.tc : Thread Cert.KernelGlobal.nD Cert.KernelGlobal.τ).loc Cert.KernelGlobal.main_arg2) = m ((c.tc : Thread Cert.KernelGlobal.nD Cert.KernelGlobal.τ).loc Cert.KernelGlobal.main_arg2)
      ∧ r.2.mem ((c.tc : Thread Cert.KernelGlobal.nD Cert.KernelGlobal.τ).loc Cert.KernelGlobal.main_arg3) = m ((c.tc : Thread Cert.KernelGlobal.nD Cert.KernelGlobal.τ).loc Cert.KernelGlobal.main_arg3))
      ∧ r.2.sem = fun _ => 0)

def quiescent_KernelGlobalIdeal [hKernelGlobalIdeal : Cert.KernelGlobalIdeal.Facts] : Prop :=
  ∀ (m : (ℓ : Loc Cert.KernelGlobalIdeal.nD Cert.KernelGlobalIdeal.τ Cert.KernelGlobalIdeal.sig) → Buf (Elt Ideal) ℓ) (g : Dev Cert.KernelGlobalIdeal.nD → PrngReg), Pre_KernelGlobalIdeal m →
    θ_run (Cert.KernelGlobalIdeal.defs (F := Ideal)) (onTc (τ := Cert.KernelGlobalIdeal.τ) (Cert.KernelGlobalIdeal.main (F := Ideal))) ⟨m, fun _ => 0, g⟩ (fun r => (∀ c : Dev Cert.KernelGlobalIdeal.nD,
      r.2.mem ((c.tc : Thread Cert.KernelGlobalIdeal.nD Cert.KernelGlobalIdeal.τ).loc Cert.KernelGlobalIdeal.main_arg0) = m ((c.tc : Thread Cert.KernelGlobalIdeal.nD Cert.KernelGlobalIdeal.τ).loc Cert.KernelGlobalIdeal.main_arg0)
      ∧ r.2.mem ((c.tc : Thread Cert.KernelGlobalIdeal.nD Cert.KernelGlobalIdeal.τ).loc Cert.KernelGlobalIdeal.main_arg1) = m ((c.tc : Thread Cert.KernelGlobalIdeal.nD Cert.KernelGlobalIdeal.τ).loc Cert.KernelGlobalIdeal.main_arg1)
      ∧ r.2.mem ((c.tc : Thread Cert.KernelGlobalIdeal.nD Cert.KernelGlobalIdeal.τ).loc Cert.KernelGlobalIdeal.main_arg2) = m ((c.tc : Thread Cert.KernelGlobalIdeal.nD Cert.KernelGlobalIdeal.τ).loc Cert.KernelGlobalIdeal.main_arg2)
      ∧ r.2.mem ((c.tc : Thread Cert.KernelGlobalIdeal.nD Cert.KernelGlobalIdeal.τ).loc Cert.KernelGlobalIdeal.main_arg3) = m ((c.tc : Thread Cert.KernelGlobalIdeal.nD Cert.KernelGlobalIdeal.τ).loc Cert.KernelGlobalIdeal.main_arg3))
      ∧ r.2.sem = fun _ => 0)

def quiescent_KernelGlobalIdeal_pre_scores_finite [hKernelGlobalIdeal : Cert.KernelGlobalIdeal.Facts] [hPre_scores_finite : Cert.Pre_scores_finite.Facts] : Prop :=
  ∀ (m : (ℓ : Loc Cert.KernelGlobalIdeal.nD Cert.KernelGlobalIdeal.τ Cert.KernelGlobalIdeal.sig) → Buf (Elt Ideal) ℓ) (g : Dev Cert.KernelGlobalIdeal.nD → PrngReg), Pre_KernelGlobalIdeal_scores_finite m →
    θ_run (Cert.KernelGlobalIdeal.defs (F := Ideal)) (onTc (τ := Cert.KernelGlobalIdeal.τ) (Cert.KernelGlobalIdeal.main (F := Ideal))) ⟨m, fun _ => 0, g⟩ (fun r => (∀ c : Dev Cert.KernelGlobalIdeal.nD,
      r.2.mem ((c.tc : Thread Cert.KernelGlobalIdeal.nD Cert.KernelGlobalIdeal.τ).loc Cert.KernelGlobalIdeal.main_arg0) = m ((c.tc : Thread Cert.KernelGlobalIdeal.nD Cert.KernelGlobalIdeal.τ).loc Cert.KernelGlobalIdeal.main_arg0)
      ∧ r.2.mem ((c.tc : Thread Cert.KernelGlobalIdeal.nD Cert.KernelGlobalIdeal.τ).loc Cert.KernelGlobalIdeal.main_arg1) = m ((c.tc : Thread Cert.KernelGlobalIdeal.nD Cert.KernelGlobalIdeal.τ).loc Cert.KernelGlobalIdeal.main_arg1)
      ∧ r.2.mem ((c.tc : Thread Cert.KernelGlobalIdeal.nD Cert.KernelGlobalIdeal.τ).loc Cert.KernelGlobalIdeal.main_arg2) = m ((c.tc : Thread Cert.KernelGlobalIdeal.nD Cert.KernelGlobalIdeal.τ).loc Cert.KernelGlobalIdeal.main_arg2)
      ∧ r.2.mem ((c.tc : Thread Cert.KernelGlobalIdeal.nD Cert.KernelGlobalIdeal.τ).loc Cert.KernelGlobalIdeal.main_arg3) = m ((c.tc : Thread Cert.KernelGlobalIdeal.nD Cert.KernelGlobalIdeal.τ).loc Cert.KernelGlobalIdeal.main_arg3))
      ∧ r.2.sem = fun _ => 0)

def quiescent_ReferenceGlobalIdeal [hReferenceGlobalIdeal : Cert.ReferenceGlobalIdeal.Facts] : Prop :=
  ∀ (m : (ℓ : Loc Cert.ReferenceGlobalIdeal.nD Cert.ReferenceGlobalIdeal.τ Cert.ReferenceGlobalIdeal.sig) → Buf (Elt Ideal) ℓ) (g : Dev Cert.ReferenceGlobalIdeal.nD → PrngReg), Pre_ReferenceGlobalIdeal m →
    θ_run (Cert.ReferenceGlobalIdeal.defs (F := Ideal)) (onTc (τ := Cert.ReferenceGlobalIdeal.τ) (Cert.ReferenceGlobalIdeal.main (F := Ideal))) ⟨m, fun _ => 0, g⟩ (fun r => (∀ c : Dev Cert.ReferenceGlobalIdeal.nD,
      r.2.mem ((c.tc : Thread Cert.ReferenceGlobalIdeal.nD Cert.ReferenceGlobalIdeal.τ).loc Cert.ReferenceGlobalIdeal.main_arg0) = m ((c.tc : Thread Cert.ReferenceGlobalIdeal.nD Cert.ReferenceGlobalIdeal.τ).loc Cert.ReferenceGlobalIdeal.main_arg0)
      ∧ r.2.mem ((c.tc : Thread Cert.ReferenceGlobalIdeal.nD Cert.ReferenceGlobalIdeal.τ).loc Cert.ReferenceGlobalIdeal.main_arg1) = m ((c.tc : Thread Cert.ReferenceGlobalIdeal.nD Cert.ReferenceGlobalIdeal.τ).loc Cert.ReferenceGlobalIdeal.main_arg1)
      ∧ r.2.mem ((c.tc : Thread Cert.ReferenceGlobalIdeal.nD Cert.ReferenceGlobalIdeal.τ).loc Cert.ReferenceGlobalIdeal.main_arg2) = m ((c.tc : Thread Cert.ReferenceGlobalIdeal.nD Cert.ReferenceGlobalIdeal.τ).loc Cert.ReferenceGlobalIdeal.main_arg2)
      ∧ r.2.mem ((c.tc : Thread Cert.ReferenceGlobalIdeal.nD Cert.ReferenceGlobalIdeal.τ).loc Cert.ReferenceGlobalIdeal.main_arg3) = m ((c.tc : Thread Cert.ReferenceGlobalIdeal.nD Cert.ReferenceGlobalIdeal.τ).loc Cert.ReferenceGlobalIdeal.main_arg3))
      ∧ r.2.sem = fun _ => 0)

def quiescent_ReferenceGlobalIdeal_pre_scores_finite [hReferenceGlobalIdeal : Cert.ReferenceGlobalIdeal.Facts] [hPre_scores_finite : Cert.Pre_scores_finite.Facts] : Prop :=
  ∀ (m : (ℓ : Loc Cert.ReferenceGlobalIdeal.nD Cert.ReferenceGlobalIdeal.τ Cert.ReferenceGlobalIdeal.sig) → Buf (Elt Ideal) ℓ) (g : Dev Cert.ReferenceGlobalIdeal.nD → PrngReg), Pre_ReferenceGlobalIdeal_scores_finite m →
    θ_run (Cert.ReferenceGlobalIdeal.defs (F := Ideal)) (onTc (τ := Cert.ReferenceGlobalIdeal.τ) (Cert.ReferenceGlobalIdeal.main (F := Ideal))) ⟨m, fun _ => 0, g⟩ (fun r => (∀ c : Dev Cert.ReferenceGlobalIdeal.nD,
      r.2.mem ((c.tc : Thread Cert.ReferenceGlobalIdeal.nD Cert.ReferenceGlobalIdeal.τ).loc Cert.ReferenceGlobalIdeal.main_arg0) = m ((c.tc : Thread Cert.ReferenceGlobalIdeal.nD Cert.ReferenceGlobalIdeal.τ).loc Cert.ReferenceGlobalIdeal.main_arg0)
      ∧ r.2.mem ((c.tc : Thread Cert.ReferenceGlobalIdeal.nD Cert.ReferenceGlobalIdeal.τ).loc Cert.ReferenceGlobalIdeal.main_arg1) = m ((c.tc : Thread Cert.ReferenceGlobalIdeal.nD Cert.ReferenceGlobalIdeal.τ).loc Cert.ReferenceGlobalIdeal.main_arg1)
      ∧ r.2.mem ((c.tc : Thread Cert.ReferenceGlobalIdeal.nD Cert.ReferenceGlobalIdeal.τ).loc Cert.ReferenceGlobalIdeal.main_arg2) = m ((c.tc : Thread Cert.ReferenceGlobalIdeal.nD Cert.ReferenceGlobalIdeal.τ).loc Cert.ReferenceGlobalIdeal.main_arg2)
      ∧ r.2.mem ((c.tc : Thread Cert.ReferenceGlobalIdeal.nD Cert.ReferenceGlobalIdeal.τ).loc Cert.ReferenceGlobalIdeal.main_arg3) = m ((c.tc : Thread Cert.ReferenceGlobalIdeal.nD Cert.ReferenceGlobalIdeal.τ).loc Cert.ReferenceGlobalIdeal.main_arg3))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6)
      ∧ r.2.mem ((c.tc : Thread Cert.KernelMerge.nD Cert.KernelMerge.τ).loc Cert.KernelMerge.main_arg7) = m ((c.tc : Thread Cert.KernelMerge.nD Cert.KernelMerge.τ).loc Cert.KernelMerge.main_arg7)
      ∧ r.2.mem ((c.tc : Thread Cert.KernelMerge.nD Cert.KernelMerge.τ).loc Cert.KernelMerge.main_arg8) = m ((c.tc : Thread Cert.KernelMerge.nD Cert.KernelMerge.τ).loc Cert.KernelMerge.main_arg8))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
      ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7)
      ∧ r.2.mem ((c.tc : Thread Cert.ReferenceMergeIdeal.nD Cert.ReferenceMergeIdeal.τ).loc Cert.ReferenceMergeIdeal.main_arg8) = m ((c.tc : Thread Cert.ReferenceMergeIdeal.nD Cert.ReferenceMergeIdeal.τ).loc Cert.ReferenceMergeIdeal.main_arg8))
      ∧ r.2.sem = fun _ => 0)

def quiescent_KernelFirst [hKernelFirst : Cert.KernelFirst.Facts] : Prop :=
  ∀ (m : (ℓ : Loc Cert.KernelFirst.nD Cert.KernelFirst.τ Cert.KernelFirst.sig) → Buf (Elt Bits) ℓ) (g : Dev Cert.KernelFirst.nD → PrngReg), Pre_KernelFirst m →
    θ_run (Cert.KernelFirst.defs (F := Bits)) (onTc (τ := Cert.KernelFirst.τ) (Cert.KernelFirst.main (F := Bits))) ⟨m, fun _ => 0, g⟩ (fun r => (∀ c : Dev Cert.KernelFirst.nD,
      r.2.mem ((c.tc : Thread Cert.KernelFirst.nD Cert.KernelFirst.τ).loc Cert.KernelFirst.main_arg0) = m ((c.tc : Thread Cert.KernelFirst.nD Cert.KernelFirst.τ).loc Cert.KernelFirst.main_arg0)
      ∧ r.2.mem ((c.tc : Thread Cert.KernelFirst.nD Cert.KernelFirst.τ).loc Cert.KernelFirst.main_arg1) = m ((c.tc : Thread Cert.KernelFirst.nD Cert.KernelFirst.τ).loc Cert.KernelFirst.main_arg1)
      ∧ r.2.mem ((c.tc : Thread Cert.KernelFirst.nD Cert.KernelFirst.τ).loc Cert.KernelFirst.main_arg2) = m ((c.tc : Thread Cert.KernelFirst.nD Cert.KernelFirst.τ).loc Cert.KernelFirst.main_arg2))
      ∧ r.2.sem = fun _ => 0)

def quiescent_KernelFirstIdeal [hKernelFirstIdeal : Cert.KernelFirstIdeal.Facts] : Prop :=
  ∀ (m : (ℓ : Loc Cert.KernelFirstIdeal.nD Cert.KernelFirstIdeal.τ Cert.KernelFirstIdeal.sig) → Buf (Elt Ideal) ℓ) (g : Dev Cert.KernelFirstIdeal.nD → PrngReg), Pre_KernelFirstIdeal m →
    θ_run (Cert.KernelFirstIdeal.defs (F := Ideal)) (onTc (τ := Cert.KernelFirstIdeal.τ) (Cert.KernelFirstIdeal.main (F := Ideal))) ⟨m, fun _ => 0, g⟩ (fun r => (∀ c : Dev Cert.KernelFirstIdeal.nD,
      r.2.mem ((c.tc : Thread Cert.KernelFirstIdeal.nD Cert.KernelFirstIdeal.τ).loc Cert.KernelFirstIdeal.main_arg0) = m ((c.tc : Thread Cert.KernelFirstIdeal.nD Cert.KernelFirstIdeal.τ).loc Cert.KernelFirstIdeal.main_arg0)
      ∧ r.2.mem ((c.tc : Thread Cert.KernelFirstIdeal.nD Cert.KernelFirstIdeal.τ).loc Cert.KernelFirstIdeal.main_arg1) = m ((c.tc : Thread Cert.KernelFirstIdeal.nD Cert.KernelFirstIdeal.τ).loc Cert.KernelFirstIdeal.main_arg1)
      ∧ r.2.mem ((c.tc : Thread Cert.KernelFirstIdeal.nD Cert.KernelFirstIdeal.τ).loc Cert.KernelFirstIdeal.main_arg2) = m ((c.tc : Thread Cert.KernelFirstIdeal.nD Cert.KernelFirstIdeal.τ).loc Cert.KernelFirstIdeal.main_arg2))
      ∧ r.2.sem = fun _ => 0)

def quiescent_KernelFirstIdeal_pre_scores_finite_first [hKernelFirstIdeal : Cert.KernelFirstIdeal.Facts] [hPre_scores_finite_first : Cert.Pre_scores_finite_first.Facts] : Prop :=
  ∀ (m : (ℓ : Loc Cert.KernelFirstIdeal.nD Cert.KernelFirstIdeal.τ Cert.KernelFirstIdeal.sig) → Buf (Elt Ideal) ℓ) (g : Dev Cert.KernelFirstIdeal.nD → PrngReg), Pre_KernelFirstIdeal_scores_finite_first m →
    θ_run (Cert.KernelFirstIdeal.defs (F := Ideal)) (onTc (τ := Cert.KernelFirstIdeal.τ) (Cert.KernelFirstIdeal.main (F := Ideal))) ⟨m, fun _ => 0, g⟩ (fun r => (∀ c : Dev Cert.KernelFirstIdeal.nD,
      r.2.mem ((c.tc : Thread Cert.KernelFirstIdeal.nD Cert.KernelFirstIdeal.τ).loc Cert.KernelFirstIdeal.main_arg0) = m ((c.tc : Thread Cert.KernelFirstIdeal.nD Cert.KernelFirstIdeal.τ).loc Cert.KernelFirstIdeal.main_arg0)
      ∧ r.2.mem ((c.tc : Thread Cert.KernelFirstIdeal.nD Cert.KernelFirstIdeal.τ).loc Cert.KernelFirstIdeal.main_arg1) = m ((c.tc : Thread Cert.KernelFirstIdeal.nD Cert.KernelFirstIdeal.τ).loc Cert.KernelFirstIdeal.main_arg1)
      ∧ r.2.mem ((c.tc : Thread Cert.KernelFirstIdeal.nD Cert.KernelFirstIdeal.τ).loc Cert.KernelFirstIdeal.main_arg2) = m ((c.tc : Thread Cert.KernelFirstIdeal.nD Cert.KernelFirstIdeal.τ).loc Cert.KernelFirstIdeal.main_arg2))
      ∧ r.2.sem = fun _ => 0)

def quiescent_ReferenceFirstIdeal [hReferenceFirstIdeal : Cert.ReferenceFirstIdeal.Facts] : Prop :=
  ∀ (m : (ℓ : Loc Cert.ReferenceFirstIdeal.nD Cert.ReferenceFirstIdeal.τ Cert.ReferenceFirstIdeal.sig) → Buf (Elt Ideal) ℓ) (g : Dev Cert.ReferenceFirstIdeal.nD → PrngReg), Pre_ReferenceFirstIdeal m →
    θ_run (Cert.ReferenceFirstIdeal.defs (F := Ideal)) (onTc (τ := Cert.ReferenceFirstIdeal.τ) (Cert.ReferenceFirstIdeal.main (F := Ideal))) ⟨m, fun _ => 0, g⟩ (fun r => (∀ c : Dev Cert.ReferenceFirstIdeal.nD,
      r.2.mem ((c.tc : Thread Cert.ReferenceFirstIdeal.nD Cert.ReferenceFirstIdeal.τ).loc Cert.ReferenceFirstIdeal.main_arg0) = m ((c.tc : Thread Cert.ReferenceFirstIdeal.nD Cert.ReferenceFirstIdeal.τ).loc Cert.ReferenceFirstIdeal.main_arg0)
      ∧ r.2.mem ((c.tc : Thread Cert.ReferenceFirstIdeal.nD Cert.ReferenceFirstIdeal.τ).loc Cert.ReferenceFirstIdeal.main_arg1) = m ((c.tc : Thread Cert.ReferenceFirstIdeal.nD Cert.ReferenceFirstIdeal.τ).loc Cert.ReferenceFirstIdeal.main_arg1)
      ∧ r.2.mem ((c.tc : Thread Cert.ReferenceFirstIdeal.nD Cert.ReferenceFirstIdeal.τ).loc Cert.ReferenceFirstIdeal.main_arg2) = m ((c.tc : Thread Cert.ReferenceFirstIdeal.nD Cert.ReferenceFirstIdeal.τ).loc Cert.ReferenceFirstIdeal.main_arg2))
      ∧ r.2.sem = fun _ => 0)

def quiescent_ReferenceFirstIdeal_pre_scores_finite_first [hReferenceFirstIdeal : Cert.ReferenceFirstIdeal.Facts] [hPre_scores_finite_first : Cert.Pre_scores_finite_first.Facts] : Prop :=
  ∀ (m : (ℓ : Loc Cert.ReferenceFirstIdeal.nD Cert.ReferenceFirstIdeal.τ Cert.ReferenceFirstIdeal.sig) → Buf (Elt Ideal) ℓ) (g : Dev Cert.ReferenceFirstIdeal.nD → PrngReg), Pre_ReferenceFirstIdeal_scores_finite_first m →
    θ_run (Cert.ReferenceFirstIdeal.defs (F := Ideal)) (onTc (τ := Cert.ReferenceFirstIdeal.τ) (Cert.ReferenceFirstIdeal.main (F := Ideal))) ⟨m, fun _ => 0, g⟩ (fun r => (∀ c : Dev Cert.ReferenceFirstIdeal.nD,
      r.2.mem ((c.tc : Thread Cert.ReferenceFirstIdeal.nD Cert.ReferenceFirstIdeal.τ).loc Cert.ReferenceFirstIdeal.main_arg0) = m ((c.tc : Thread Cert.ReferenceFirstIdeal.nD Cert.ReferenceFirstIdeal.τ).loc Cert.ReferenceFirstIdeal.main_arg0)
      ∧ r.2.mem ((c.tc : Thread Cert.ReferenceFirstIdeal.nD Cert.ReferenceFirstIdeal.τ).loc Cert.ReferenceFirstIdeal.main_arg1) = m ((c.tc : Thread Cert.ReferenceFirstIdeal.nD Cert.ReferenceFirstIdeal.τ).loc Cert.ReferenceFirstIdeal.main_arg1)
      ∧ r.2.mem ((c.tc : Thread Cert.ReferenceFirstIdeal.nD Cert.ReferenceFirstIdeal.τ).loc Cert.ReferenceFirstIdeal.main_arg2) = m ((c.tc : Thread Cert.ReferenceFirstIdeal.nD Cert.ReferenceFirstIdeal.τ).loc Cert.ReferenceFirstIdeal.main_arg2))
      ∧ r.2.sem = fun _ => 0)

def preserves_Kernel_KernelIdeal : Prop :=
  True

def algebraic_KernelIdeal_ReferenceIdeal_pre_gates_ok [hKernelIdeal : Cert.KernelIdeal.Facts] [hReferenceIdeal : Cert.ReferenceIdeal.Facts] [hPre_gates_ok : Cert.Pre_gates_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_KernelGlobal_KernelGlobalIdeal : Prop :=
  True

def algebraic_KernelGlobalIdeal_ReferenceGlobalIdeal_pre_scores_finite [hKernelGlobalIdeal : Cert.KernelGlobalIdeal.Facts] [hReferenceGlobalIdeal : Cert.ReferenceGlobalIdeal.Facts] [hPre_scores_finite : Cert.Pre_scores_finite.Facts] : Prop :=
  ∀ (m : (ℓ : Loc Cert.KernelGlobalIdeal.nD Cert.KernelGlobalIdeal.τ Cert.KernelGlobalIdeal.sig) → Buf (Elt Ideal) ℓ) (g : Dev Cert.KernelGlobalIdeal.nD → PrngReg)
    (m' : (ℓ : Loc Cert.ReferenceGlobalIdeal.nD Cert.ReferenceGlobalIdeal.τ Cert.ReferenceGlobalIdeal.sig) → Buf (Elt Ideal) ℓ) (g' : Dev Cert.ReferenceGlobalIdeal.nD → PrngReg), Pre_KernelGlobalIdeal_scores_finite m →
    (∀ c : Dev Cert.KernelGlobalIdeal.nD,
      m' ((c.tc : Thread Cert.ReferenceGlobalIdeal.nD Cert.ReferenceGlobalIdeal.τ).loc Cert.ReferenceGlobalIdeal.main_arg0) = m ((c.tc : Thread Cert.KernelGlobalIdeal.nD Cert.KernelGlobalIdeal.τ).loc Cert.KernelGlobalIdeal.main_arg0)
      ∧ m' ((c.tc : Thread Cert.ReferenceGlobalIdeal.nD Cert.ReferenceGlobalIdeal.τ).loc Cert.ReferenceGlobalIdeal.main_arg1) = m ((c.tc : Thread Cert.KernelGlobalIdeal.nD Cert.KernelGlobalIdeal.τ).loc Cert.KernelGlobalIdeal.main_arg1)
      ∧ m' ((c.tc : Thread Cert.ReferenceGlobalIdeal.nD Cert.ReferenceGlobalIdeal.τ).loc Cert.ReferenceGlobalIdeal.main_arg2) = m ((c.tc : Thread Cert.KernelGlobalIdeal.nD Cert.KernelGlobalIdeal.τ).loc Cert.KernelGlobalIdeal.main_arg2)
      ∧ m' ((c.tc : Thread Cert.ReferenceGlobalIdeal.nD Cert.ReferenceGlobalIdeal.τ).loc Cert.ReferenceGlobalIdeal.main_arg3) = m ((c.tc : Thread Cert.KernelGlobalIdeal.nD Cert.KernelGlobalIdeal.τ).loc Cert.KernelGlobalIdeal.main_arg3)) →
    ∃ (v0 : (c : Dev Cert.KernelGlobalIdeal.nD) → Buf (Elt Ideal) ((c.tc : Thread Cert.KernelGlobalIdeal.nD Cert.KernelGlobalIdeal.τ).loc Cert.KernelGlobalIdeal.main_v0)),
      θ_run (Cert.KernelGlobalIdeal.defs (F := Ideal)) (onTc (τ := Cert.KernelGlobalIdeal.τ) (Cert.KernelGlobalIdeal.main (F := Ideal))) ⟨m, fun _ => 0, g⟩ (fun r => ∀ c : Dev Cert.KernelGlobalIdeal.nD,
          r.2.mem ((c.tc : Thread Cert.KernelGlobalIdeal.nD Cert.KernelGlobalIdeal.τ).loc Cert.KernelGlobalIdeal.main_v0) = v0 c
          ∧ r.2.mem ((c.tc : Thread Cert.KernelGlobalIdeal.nD Cert.KernelGlobalIdeal.τ).loc Cert.KernelGlobalIdeal.main_arg0) = m ((c.tc : Thread Cert.KernelGlobalIdeal.nD Cert.KernelGlobalIdeal.τ).loc Cert.KernelGlobalIdeal.main_arg0)
          ∧ r.2.mem ((c.tc : Thread Cert.KernelGlobalIdeal.nD Cert.KernelGlobalIdeal.τ).loc Cert.KernelGlobalIdeal.main_arg1) = m ((c.tc : Thread Cert.KernelGlobalIdeal.nD Cert.KernelGlobalIdeal.τ).loc Cert.KernelGlobalIdeal.main_arg1)
          ∧ r.2.mem ((c.tc : Thread Cert.KernelGlobalIdeal.nD Cert.KernelGlobalIdeal.τ).loc Cert.KernelGlobalIdeal.main_arg2) = m ((c.tc : Thread Cert.KernelGlobalIdeal.nD Cert.KernelGlobalIdeal.τ).loc Cert.KernelGlobalIdeal.main_arg2)
          ∧ r.2.mem ((c.tc : Thread Cert.KernelGlobalIdeal.nD Cert.KernelGlobalIdeal.τ).loc Cert.KernelGlobalIdeal.main_arg3) = m ((c.tc : Thread Cert.KernelGlobalIdeal.nD Cert.KernelGlobalIdeal.τ).loc Cert.KernelGlobalIdeal.main_arg3))
      ∧ θ_run (Cert.ReferenceGlobalIdeal.defs (F := Ideal)) (onTc (τ := Cert.ReferenceGlobalIdeal.τ) (Cert.ReferenceGlobalIdeal.main (F := Ideal))) ⟨m', fun _ => 0, g'⟩ (fun r => ∀ c : Dev Cert.ReferenceGlobalIdeal.nD,
          r.2.mem ((c.tc : Thread Cert.ReferenceGlobalIdeal.nD Cert.ReferenceGlobalIdeal.τ).loc Cert.ReferenceGlobalIdeal.main_v36) = v0 c
          ∧ r.2.mem ((c.tc : Thread Cert.ReferenceGlobalIdeal.nD Cert.ReferenceGlobalIdeal.τ).loc Cert.ReferenceGlobalIdeal.main_arg0) = m' ((c.tc : Thread Cert.ReferenceGlobalIdeal.nD Cert.ReferenceGlobalIdeal.τ).loc Cert.ReferenceGlobalIdeal.main_arg0)
          ∧ r.2.mem ((c.tc : Thread Cert.ReferenceGlobalIdeal.nD Cert.ReferenceGlobalIdeal.τ).loc Cert.ReferenceGlobalIdeal.main_arg1) = m' ((c.tc : Thread Cert.ReferenceGlobalIdeal.nD Cert.ReferenceGlobalIdeal.τ).loc Cert.ReferenceGlobalIdeal.main_arg1)
          ∧ r.2.mem ((c.tc : Thread Cert.ReferenceGlobalIdeal.nD Cert.ReferenceGlobalIdeal.τ).loc Cert.ReferenceGlobalIdeal.main_arg2) = m' ((c.tc : Thread Cert.ReferenceGlobalIdeal.nD Cert.ReferenceGlobalIdeal.τ).loc Cert.ReferenceGlobalIdeal.main_arg2)
          ∧ r.2.mem ((c.tc : Thread Cert.ReferenceGlobalIdeal.nD Cert.ReferenceGlobalIdeal.τ).loc Cert.ReferenceGlobalIdeal.main_arg3) = m' ((c.tc : Thread Cert.ReferenceGlobalIdeal.nD Cert.ReferenceGlobalIdeal.τ).loc Cert.ReferenceGlobalIdeal.main_arg3))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)
      ∧ m' ((c.tc : Thread Cert.ReferenceMergeIdeal.nD Cert.ReferenceMergeIdeal.τ).loc Cert.ReferenceMergeIdeal.main_arg7) = m ((c.tc : Thread Cert.KernelMergeIdeal.nD Cert.KernelMergeIdeal.τ).loc Cert.KernelMergeIdeal.main_arg7)
      ∧ m' ((c.tc : Thread Cert.ReferenceMergeIdeal.nD Cert.ReferenceMergeIdeal.τ).loc Cert.ReferenceMergeIdeal.main_arg8) = m ((c.tc : Thread Cert.KernelMergeIdeal.nD Cert.KernelMergeIdeal.τ).loc Cert.KernelMergeIdeal.main_arg8)) →
    ∃ (v0 : (c : Dev Cert.KernelMergeIdeal.nD) → Buf (Elt Ideal) ((c.tc : Thread Cert.KernelMergeIdeal.nD Cert.KernelMergeIdeal.τ).loc Cert.KernelMergeIdeal.main_v12_0)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v12_0) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
          ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
          ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v40) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6)
          ∧ r.2.mem ((c.tc : Thread Cert.ReferenceMergeIdeal.nD Cert.ReferenceMergeIdeal.τ).loc Cert.ReferenceMergeIdeal.main_arg7) = m' ((c.tc : Thread Cert.ReferenceMergeIdeal.nD Cert.ReferenceMergeIdeal.τ).loc Cert.ReferenceMergeIdeal.main_arg7)
          ∧ r.2.mem ((c.tc : Thread Cert.ReferenceMergeIdeal.nD Cert.ReferenceMergeIdeal.τ).loc Cert.ReferenceMergeIdeal.main_arg8) = m' ((c.tc : Thread Cert.ReferenceMergeIdeal.nD Cert.ReferenceMergeIdeal.τ).loc Cert.ReferenceMergeIdeal.main_arg8))

def preserves_KernelFirst_KernelFirstIdeal : Prop :=
  True

def algebraic_KernelFirstIdeal_ReferenceFirstIdeal_pre_scores_finite_first [hKernelFirstIdeal : Cert.KernelFirstIdeal.Facts] [hReferenceFirstIdeal : Cert.ReferenceFirstIdeal.Facts] [hPre_scores_finite_first : Cert.Pre_scores_finite_first.Facts] : Prop :=
  ∀ (m : (ℓ : Loc Cert.KernelFirstIdeal.nD Cert.KernelFirstIdeal.τ Cert.KernelFirstIdeal.sig) → Buf (Elt Ideal) ℓ) (g : Dev Cert.KernelFirstIdeal.nD → PrngReg)
    (m' : (ℓ : Loc Cert.ReferenceFirstIdeal.nD Cert.ReferenceFirstIdeal.τ Cert.ReferenceFirstIdeal.sig) → Buf (Elt Ideal) ℓ) (g' : Dev Cert.ReferenceFirstIdeal.nD → PrngReg), Pre_KernelFirstIdeal_scores_finite_first m →
    (∀ c : Dev Cert.KernelFirstIdeal.nD,
      m' ((c.tc : Thread Cert.ReferenceFirstIdeal.nD Cert.ReferenceFirstIdeal.τ).loc Cert.ReferenceFirstIdeal.main_arg0) = m ((c.tc : Thread Cert.KernelFirstIdeal.nD Cert.KernelFirstIdeal.τ).loc Cert.KernelFirstIdeal.main_arg0)
      ∧ m' ((c.tc : Thread Cert.ReferenceFirstIdeal.nD Cert.ReferenceFirstIdeal.τ).loc Cert.ReferenceFirstIdeal.main_arg1) = m ((c.tc : Thread Cert.KernelFirstIdeal.nD Cert.KernelFirstIdeal.τ).loc Cert.KernelFirstIdeal.main_arg1)
      ∧ m' ((c.tc : Thread Cert.ReferenceFirstIdeal.nD Cert.ReferenceFirstIdeal.τ).loc Cert.ReferenceFirstIdeal.main_arg2) = m ((c.tc : Thread Cert.KernelFirstIdeal.nD Cert.KernelFirstIdeal.τ).loc Cert.KernelFirstIdeal.main_arg2)) →
    ∃ (v0 : (c : Dev Cert.KernelFirstIdeal.nD) → Buf (Elt Ideal) ((c.tc : Thread Cert.KernelFirstIdeal.nD Cert.KernelFirstIdeal.τ).loc Cert.KernelFirstIdeal.main_v1)),
      θ_run (Cert.KernelFirstIdeal.defs (F := Ideal)) (onTc (τ := Cert.KernelFirstIdeal.τ) (Cert.KernelFirstIdeal.main (F := Ideal))) ⟨m, fun _ => 0, g⟩ (fun r => ∀ c : Dev Cert.KernelFirstIdeal.nD,
          r.2.mem ((c.tc : Thread Cert.KernelFirstIdeal.nD Cert.KernelFirstIdeal.τ).loc Cert.KernelFirstIdeal.main_v1) = v0 c
          ∧ r.2.mem ((c.tc : Thread Cert.KernelFirstIdeal.nD Cert.KernelFirstIdeal.τ).loc Cert.KernelFirstIdeal.main_arg0) = m ((c.tc : Thread Cert.KernelFirstIdeal.nD Cert.KernelFirstIdeal.τ).loc Cert.KernelFirstIdeal.main_arg0)
          ∧ r.2.mem ((c.tc : Thread Cert.KernelFirstIdeal.nD Cert.KernelFirstIdeal.τ).loc Cert.KernelFirstIdeal.main_arg1) = m ((c.tc : Thread Cert.KernelFirstIdeal.nD Cert.KernelFirstIdeal.τ).loc Cert.KernelFirstIdeal.main_arg1)
          ∧ r.2.mem ((c.tc : Thread Cert.KernelFirstIdeal.nD Cert.KernelFirstIdeal.τ).loc Cert.KernelFirstIdeal.main_arg2) = m ((c.tc : Thread Cert.KernelFirstIdeal.nD Cert.KernelFirstIdeal.τ).loc Cert.KernelFirstIdeal.main_arg2))
      ∧ θ_run (Cert.ReferenceFirstIdeal.defs (F := Ideal)) (onTc (τ := Cert.ReferenceFirstIdeal.τ) (Cert.ReferenceFirstIdeal.main (F := Ideal))) ⟨m', fun _ => 0, g'⟩ (fun r => ∀ c : Dev Cert.ReferenceFirstIdeal.nD,
          r.2.mem ((c.tc : Thread Cert.ReferenceFirstIdeal.nD Cert.ReferenceFirstIdeal.τ).loc Cert.ReferenceFirstIdeal.main_v31) = v0 c
          ∧ r.2.mem ((c.tc : Thread Cert.ReferenceFirstIdeal.nD Cert.ReferenceFirstIdeal.τ).loc Cert.ReferenceFirstIdeal.main_arg0) = m' ((c.tc : Thread Cert.ReferenceFirstIdeal.nD Cert.ReferenceFirstIdeal.τ).loc Cert.ReferenceFirstIdeal.main_arg0)
          ∧ r.2.mem ((c.tc : Thread Cert.ReferenceFirstIdeal.nD Cert.ReferenceFirstIdeal.τ).loc Cert.ReferenceFirstIdeal.main_arg1) = m' ((c.tc : Thread Cert.ReferenceFirstIdeal.nD Cert.ReferenceFirstIdeal.τ).loc Cert.ReferenceFirstIdeal.main_arg1)
          ∧ r.2.mem ((c.tc : Thread Cert.ReferenceFirstIdeal.nD Cert.ReferenceFirstIdeal.τ).loc Cert.ReferenceFirstIdeal.main_arg2) = m' ((c.tc : Thread Cert.ReferenceFirstIdeal.nD Cert.ReferenceFirstIdeal.τ).loc Cert.ReferenceFirstIdeal.main_arg2))

def Claim : Prop :=
  ∃ (hKernel : Cert.Kernel.Facts) (hKernelIdeal : Cert.KernelIdeal.Facts) (hReferenceIdeal : Cert.ReferenceIdeal.Facts) (hKernelGlobal : Cert.KernelGlobal.Facts) (hKernelGlobalIdeal : Cert.KernelGlobalIdeal.Facts) (hReferenceGlobalIdeal : Cert.ReferenceGlobalIdeal.Facts) (hKernelMerge : Cert.KernelMerge.Facts) (hKernelMergeIdeal : Cert.KernelMergeIdeal.Facts) (hReferenceMergeIdeal : Cert.ReferenceMergeIdeal.Facts) (hKernelFirst : Cert.KernelFirst.Facts) (hKernelFirstIdeal : Cert.KernelFirstIdeal.Facts) (hReferenceFirstIdeal : Cert.ReferenceFirstIdeal.Facts) (hPre_gates_ok : Cert.Pre_gates_ok.Facts) (hPre_scores_finite : Cert.Pre_scores_finite.Facts) (hPre_scores_finite_first : Cert.Pre_scores_finite_first.Facts),
    quiescent_Kernel (hKernel := hKernel)
    ∧ quiescent_KernelIdeal (hKernelIdeal := hKernelIdeal)
    ∧ quiescent_KernelIdeal_pre_gates_ok (hKernelIdeal := hKernelIdeal) (hPre_gates_ok := hPre_gates_ok)
    ∧ quiescent_ReferenceIdeal (hReferenceIdeal := hReferenceIdeal)
    ∧ quiescent_ReferenceIdeal_pre_gates_ok (hReferenceIdeal := hReferenceIdeal) (hPre_gates_ok := hPre_gates_ok)
    ∧ quiescent_KernelGlobal (hKernelGlobal := hKernelGlobal)
    ∧ quiescent_KernelGlobalIdeal (hKernelGlobalIdeal := hKernelGlobalIdeal)
    ∧ quiescent_KernelGlobalIdeal_pre_scores_finite (hKernelGlobalIdeal := hKernelGlobalIdeal) (hPre_scores_finite := hPre_scores_finite)
    ∧ quiescent_ReferenceGlobalIdeal (hReferenceGlobalIdeal := hReferenceGlobalIdeal)
    ∧ quiescent_ReferenceGlobalIdeal_pre_scores_finite (hReferenceGlobalIdeal := hReferenceGlobalIdeal) (hPre_scores_finite := hPre_scores_finite)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelFirst (hKernelFirst := hKernelFirst)
    ∧ quiescent_KernelFirstIdeal (hKernelFirstIdeal := hKernelFirstIdeal)
    ∧ quiescent_KernelFirstIdeal_pre_scores_finite_first (hKernelFirstIdeal := hKernelFirstIdeal) (hPre_scores_finite_first := hPre_scores_finite_first)
    ∧ quiescent_ReferenceFirstIdeal (hReferenceFirstIdeal := hReferenceFirstIdeal)
    ∧ quiescent_ReferenceFirstIdeal_pre_scores_finite_first (hReferenceFirstIdeal := hReferenceFirstIdeal) (hPre_scores_finite_first := hPre_scores_finite_first)
    ∧ preserves_Kernel_KernelIdeal
    ∧ algebraic_KernelIdeal_ReferenceIdeal_pre_gates_ok (hKernelIdeal := hKernelIdeal) (hReferenceIdeal := hReferenceIdeal) (hPre_gates_ok := hPre_gates_ok)
    ∧ preserves_KernelGlobal_KernelGlobalIdeal
    ∧ algebraic_KernelGlobalIdeal_ReferenceGlobalIdeal_pre_scores_finite (hKernelGlobalIdeal := hKernelGlobalIdeal) (hReferenceGlobalIdeal := hReferenceGlobalIdeal) (hPre_scores_finite := hPre_scores_finite)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelFirst_KernelFirstIdeal
    ∧ algebraic_KernelFirstIdeal_ReferenceFirstIdeal_pre_scores_finite_first (hKernelFirstIdeal := hKernelFirstIdeal) (hReferenceFirstIdeal := hReferenceFirstIdeal) (hPre_scores_finite_first := hPre_scores_finite_first)
-- ==== Pre_gates_ok.lean ====
abbrev S132096x1024 : Shape := ⟨2, ![132096, 1024]⟩
abbrev S132096x128 : Shape := ⟨2, ![132096, 128]⟩
abbrev S64x1024x512 : Shape := ⟨3, ![64, 1024, 512]⟩
abbrev S64x256x1024 : Shape := ⟨3, ![64, 256, 1024]⟩
abbrev S1024x512 : Shape := ⟨2, ![1024, 512]⟩
abbrev S256x1024 : Shape := ⟨2, ![256, 1024]⟩
abbrev S1024 : Shape := ⟨1, ![1024]⟩
abbrev S132096x64 : Shape := ⟨2, ![132096, 64]⟩
abbrev S_ : Shape := ⟨0, ![]⟩

class Facts : Prop where
  slices_S132096x128_S132096x64_0_0 : S132096x128.Slices ![0, 0] S132096x64
  bcast_S_S132096x64 : S_.BroadcastsInDim S132096x64 (![] : Fin 0 → Fin S132096x64.rank)

variable [Facts]

def fn {F : FTy → Type} [FloatOps F] (main_arg0 : FVec F S132096x1024 .f32) (main_arg1 : FVec F S132096x128 .f32) (main_arg2 : FVec F S64x1024x512 .f32) (main_arg3 : FVec F S64x256x1024 .f32) (main_arg4 : FVec F S1024x512 .f32) (main_arg5 : FVec F S256x1024 .f32) (main_arg6 : FVec F S1024 .f32) (main_arg7 : FVec F S1024 .f32) : IVec S132096x64 1 × IVec S132096x64 1 :=
  let main_v0 : FVec F S132096x64 .f32 := (extractStridedSlice S132096x64 ![0, 0] · slices_S132096x128_S132096x64_0_0) main_arg1
  let main_cst : FVec F S_ .f32 := constant S_ .f32 0x00000000#32
  let main_v1 : FVec F S132096x64 .f32 := broadcastInDim S132096x64 ![] bcast_S_S132096x64 main_cst
  let main_v2 : IVec S132096x64 1 := cmpf .oge main_v0 main_v1
  let main_cst_0 : FVec F S_ .f32 := constant S_ .f32 0x7F800000#32
  let main_v3 : FVec F S132096x64 .f32 := broadcastInDim S132096x64 ![] bcast_S_S132096x64 main_cst_0
  let main_v4 : IVec S132096x64 1 := cmpf .olt main_v0 main_v3
  (main_v2, main_v4)
-- ==== Pre_scores_finite.lean ====
abbrev S132096x1536 : Shape := ⟨2, ![132096, 1536]⟩
abbrev S132096x384 : Shape := ⟨2, ![132096, 384]⟩
abbrev S65536x512 : Shape := ⟨2, ![65536, 512]⟩
abbrev S65536x128 : Shape := ⟨2, ![65536, 128]⟩
abbrev S512x128 : Shape := ⟨2, ![512, 128]⟩
abbrev S_ : Shape := ⟨0, ![]⟩

class Facts : Prop where
  slices_S132096x1536_S65536x512_65536_0 : S132096x1536.Slices ![65536, 0] S65536x512
  bitsLt_bf16_f32 : FTy.bits .bf16 < FTy.bits .f32
  slices_S132096x384_S65536x128_65536_0 : S132096x384.Slices ![65536, 0] S65536x128
  slices_S132096x384_S512x128_131328_0 : S132096x384.Slices ![131328, 0] S512x128
  bcast_S_S65536x512 : S_.BroadcastsInDim S65536x512 (![] : Fin 0 → Fin S65536x512.rank)
  bcast_S_S65536x128 : S_.BroadcastsInDim S65536x128 (![] : Fin 0 → Fin S65536x128.rank)
  bcast_S_S512x128 : S_.BroadcastsInDim S512x128 (![] : Fin 0 → Fin S512x128.rank)

variable [Facts]

def fn {F : FTy → Type} [FloatOps F] (main_arg0 : FVec F S132096x1536 .bf16) (main_arg1 : FVec F S132096x384 .bf16) (main_arg2 : FVec F S132096x384 .bf16) (main_arg3 : FVec F S132096x1536 .bf16) : IVec S65536x512 1 × IVec S65536x128 1 × IVec S512x128 1 :=
  let main_v0 : FVec F S65536x512 .bf16 := (extractStridedSlice S65536x512 ![65536, 0] · slices_S132096x1536_S65536x512_65536_0) main_arg0
  let main_v1 : FVec F S65536x512 .f32 := (extf .f32 · bitsLt_bf16_f32) main_v0
  let main_v2 : FVec F S65536x128 .bf16 := (extractStridedSlice S65536x128 ![65536, 0] · slices_S132096x384_S65536x128_65536_0) main_arg1
  let main_v3 : FVec F S65536x128 .f32 := (extf .f32 · bitsLt_bf16_f32) main_v2
  let main_v4 : FVec F S512x128 .bf16 := (extractStridedSlice S512x128 ![131328, 0] · slices_S132096x384_S512x128_131328_0) main_arg1
  let main_v5 : FVec F S512x128 .f32 := (extf .f32 · bitsLt_bf16_f32) main_v4
  let main_v6 : FVec F S65536x512 .f32 := Host.absf main_v1
  let main_cst : FVec F S_ .f32 := constant S_ .f32 0x7F800000#32
  let main_v7 : FVec F S65536x512 .f32 := broadcastInDim S65536x512 ![] bcast_S_S65536x512 main_cst
  let main_v8 : IVec S65536x512 1 := cmpf .olt main_v6 main_v7
  let main_v9 : FVec F S65536x128 .f32 := Host.absf main_v3
  let main_cst_0 : FVec F S_ .f32 := constant S_ .f32 0x7F800000#32
  let main_v10 : FVec F S65536x128 .f32 := broadcastInDim S65536x128 ![] bcast_S_S65536x128 main_cst_0
  let main_v11 : IVec S65536x128 1 := cmpf .olt main_v9 main_v10
  let main_v12 : FVec F S512x128 .f32 := Host.absf main_v5
  let main_cst_1 : FVec F S_ .f32 := constant S_ .f32 0x7F800000#32
  let main_v13 : FVec F S512x128 .f32 := broadcastInDim S512x128 ![] bcast_S_S512x128 main_cst_1
  let main_v14 : IVec S512x128 1 := cmpf .olt main_v12 main_v13
  (main_v8, main_v11, main_v14)
-- ==== Pre_scores_finite_first.lean ====
abbrev S132096x1536 : Shape := ⟨2, ![132096, 1536]⟩
abbrev S132096x384 : Shape := ⟨2, ![132096, 384]⟩
abbrev S65536x512 : Shape := ⟨2, ![65536, 512]⟩
abbrev S65536x128 : Shape := ⟨2, ![65536, 128]⟩
abbrev S256x128 : Shape := ⟨2, ![256, 128]⟩
abbrev S_ : Shape := ⟨0, ![]⟩

class Facts : Prop where
  slices_S132096x1536_S65536x512_0_0 : S132096x1536.Slices ![0, 0] S65536x512
  bitsLt_bf16_f32 : FTy.bits .bf16 < FTy.bits .f32
  slices_S132096x384_S65536x128_0_0 : S132096x384.Slices ![0, 0] S65536x128
  slices_S132096x384_S256x128_131072_0 : S132096x384.Slices ![131072, 0] S256x128
  bcast_S_S65536x512 : S_.BroadcastsInDim S65536x512 (![] : Fin 0 → Fin S65536x512.rank)
  bcast_S_S65536x128 : S_.BroadcastsInDim S65536x128 (![] : Fin 0 → Fin S65536x128.rank)
  bcast_S_S256x128 : S_.BroadcastsInDim S256x128 (![] : Fin 0 → Fin S256x128.rank)

variable [Facts]

def fn {F : FTy → Type} [FloatOps F] (main_arg0 : FVec F S132096x1536 .bf16) (main_arg1 : FVec F S132096x384 .bf16) (main_arg2 : FVec F S132096x384 .bf16) : IVec S65536x512 1 × IVec S65536x128 1 × IVec S256x128 1 :=
  let main_v0 : FVec F S65536x512 .bf16 := (extractStridedSlice S65536x512 ![0, 0] · slices_S132096x1536_S65536x512_0_0) main_arg0
  let main_v1 : FVec F S65536x512 .f32 := (extf .f32 · bitsLt_bf16_f32) main_v0
  let main_v2 : FVec F S65536x128 .bf16 := (extractStridedSlice S65536x128 ![0, 0] · slices_S132096x384_S65536x128_0_0) main_arg1
  let main_v3 : FVec F S65536x128 .f32 := (extf .f32 · bitsLt_bf16_f32) main_v2
  let main_v4 : FVec F S256x128 .bf16 := (extractStridedSlice S256x128 ![131072, 0] · slices_S132096x384_S256x128_131072_0) main_arg1
  let main_v5 : FVec F S256x128 .f32 := (extf .f32 · bitsLt_bf16_f32) main_v4
  let main_v6 : FVec F S65536x512 .f32 := Host.absf main_v1
  let main_cst : FVec F S_ .f32 := constant S_ .f32 0x7F800000#32
  let main_v7 : FVec F S65536x512 .f32 := broadcastInDim S65536x512 ![] bcast_S_S65536x512 main_cst
  let main_v8 : IVec S65536x512 1 := cmpf .olt main_v6 main_v7
  let main_v9 : FVec F S65536x128 .f32 := Host.absf main_v3
  let main_cst_0 : FVec F S_ .f32 := constant S_ .f32 0x7F800000#32
  let main_v10 : FVec F S65536x128 .f32 := broadcastInDim S65536x128 ![] bcast_S_S65536x128 main_cst_0
  let main_v11 : IVec S65536x128 1 := cmpf .olt main_v9 main_v10
  let main_v12 : FVec F S256x128 .f32 := Host.absf main_v5
  let main_cst_1 : FVec F S_ .f32 := constant S_ .f32 0x7F800000#32
  let main_v13 : FVec F S256x128 .f32 := broadcastInDim S256x128 ![] bcast_S_S256x128 main_cst_1
  let main_v14 : IVec S256x128 1 := cmpf .olt main_v12 main_v13
  (main_v8, main_v11, main_v14)
-- ==== Kernel.lean ====
abbrev S132096x1024 : Shape := ⟨2, ![132096, 1024]⟩
abbrev S132096x128 : Shape := ⟨2, ![132096, 128]⟩
abbrev S64x1024x512 : Shape := ⟨3, ![64, 1024, 512]⟩
abbrev S64x256x1024 : Shape := ⟨3, ![64, 256, 1024]⟩
abbrev S1024x512 : Shape := ⟨2, ![1024, 512]⟩
abbrev S256x1024 : Shape := ⟨2, ![256, 1024]⟩
abbrev S1024 : Shape := ⟨1, ![1024]⟩
abbrev S1x1024 : Shape := ⟨2, ![1, 1024]⟩
abbrev S1024x1024 : Shape := ⟨2, ![1024, 1024]⟩
abbrev S1024x128 : Shape := ⟨2, ![1024, 128]⟩
abbrev S4x1024x512 : Shape := ⟨3, ![4, 1024, 512]⟩
abbrev S4x256x1024 : Shape := ⟨3, ![4, 256, 1024]⟩
abbrev S1x1024x512 : Shape := ⟨3, ![1, 1024, 512]⟩
abbrev S1024x256 : Shape := ⟨2, ![1024, 256]⟩
abbrev S1024x1 : Shape := ⟨2, ![1024, 1]⟩
abbrev S1x256x1024 : Shape := ⟨3, ![1, 256, 1024]⟩

abbrev nBuf : Space → Nat
  | .hbm => 15
  | .vmem => 16
  | .smem => 0
  | _ => 0

abbrev bufTy : (tb : Table) → Fin (tcTables nBuf tb) → BufTy
  | .hbm, ⟨0, _⟩ => ⟨S132096x1024, .f32⟩
  | .hbm, ⟨1, _⟩ => ⟨S132096x128, .f32⟩
  | .hbm, ⟨2, _⟩ => ⟨S64x1024x512, .f32⟩
  | .hbm, ⟨3, _⟩ => ⟨S64x256x1024, .f32⟩
  | .hbm, ⟨4, _⟩ => ⟨S1024x512, .f32⟩
  | .hbm, ⟨5, _⟩ => ⟨S256x1024, .f32⟩
  | .hbm, ⟨6, _⟩ => ⟨S1024, .f32⟩
  | .hbm, ⟨7, _⟩ => ⟨S1024, .f32⟩
  | .hbm, ⟨8, _⟩ => ⟨S64x1024x512, .bf16⟩
  | .hbm, ⟨9, _⟩ => ⟨S64x256x1024, .bf16⟩
  | .hbm, ⟨10, _⟩ => ⟨S1024x512, .bf16⟩
  | .hbm, ⟨11, _⟩ => ⟨S256x1024, .bf16⟩
  | .hbm, ⟨12, _⟩ => ⟨S1x1024, .f32⟩
  | .hbm, ⟨13, _⟩ => ⟨S1x1024, .f32⟩
  | .hbm, ⟨14, _⟩ => ⟨S132096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S4x1024x512, .bf16⟩
  | .local _ .vmem, ⟨5, _⟩ => ⟨S4x1024x512, .bf16⟩
  | .local _ .vmem, ⟨6, _⟩ => ⟨S4x256x1024, .bf16⟩
  | .local _ .vmem, ⟨7, _⟩ => ⟨S4x256x1024, .bf16⟩
  | .local _ .vmem, ⟨8, _⟩ => ⟨S1024x512, .bf16⟩
  | .local _ .vmem, ⟨9, _⟩ => ⟨S256x1024, .bf16⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .f32⟩
  | _, _ => ⟨S132096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![129, 16], ![false, false]⟩

def k0_cond2 (i : grid0.Coords) : BitVec 1 :=
  let arg1 : BitVec 32 := BitVec.ofNat 32 (i 1).val
  let c15_i32 : BitVec 32 := 15#32
  let v130 : BitVec 1 := Scalar.cmpi .eq arg1 c15_i32
  let v131 : BitVec 32 := Scalar.extui v130
  let c0_i32_68 : BitVec 32 := 0#32
  let v132 : BitVec 1 := Scalar.cmpi .ne v131 c0_i32_68
  v132

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S132096x1024 : Shape := ⟨2, ![132096, 1024]⟩
abbrev S132096x128 : Shape := ⟨2, ![132096, 128]⟩
abbrev S64x1024x512 : Shape := ⟨3, ![64, 1024, 512]⟩
abbrev S64x256x1024 : Shape := ⟨3, ![64, 256, 1024]⟩
abbrev S1024x512 : Shape := ⟨2, ![1024, 512]⟩
abbrev S256x1024 : Shape := ⟨2, ![256, 1024]⟩
abbrev S1024 : Shape := ⟨1, ![1024]⟩
abbrev S64x512x132096 : Shape := ⟨3, ![64, 512, 132096]⟩
abbrev S64x132096x512 : Shape := ⟨3, ![64, 132096, 512]⟩
abbrev S64x132096x256 : Shape := ⟨3, ![64, 132096, 256]⟩
abbrev S_ : Shape := ⟨0, ![]⟩
abbrev S64x132096x1024 : Shape := ⟨3, ![64, 132096, 1024]⟩
abbrev S132096x64 : Shape := ⟨2, ![132096, 64]⟩
abbrev S64x132096 : Shape := ⟨2, ![64, 132096]⟩
abbrev S64x132096x1 : Shape := ⟨3, ![64, 132096, 1]⟩
abbrev S132096x512 : Shape := ⟨2, ![132096, 512]⟩
abbrev S132096x256 : Shape := ⟨2, ![132096, 256]⟩
abbrev S132096 : Shape := ⟨1, ![132096]⟩
abbrev S132096x1 : Shape := ⟨2, ![132096, 1]⟩
abbrev S1x1024 : Shape := ⟨2, ![1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S132096x1024, .f32⟩
  | .hbm, ⟨1, _⟩ => ⟨S132096x128, .f32⟩
  | .hbm, ⟨2, _⟩ => ⟨S64x1024x512, .f32⟩
  | .hbm, ⟨3, _⟩ => ⟨S64x256x1024, .f32⟩
  | .hbm, ⟨4, _⟩ => ⟨S1024x512, .f32⟩
  | .hbm, ⟨5, _⟩ => ⟨S256x1024, .f32⟩
  | .hbm, ⟨6, _⟩ => ⟨S1024, .f32⟩
  | .hbm, ⟨7, _⟩ => ⟨S1024, .f32⟩
  | .hbm, ⟨8, _⟩ => ⟨S64x512x132096, .f32⟩
  | .hbm, ⟨9, _⟩ => ⟨S64x132096x512, .f32⟩
  | .hbm, ⟨10, _⟩ => ⟨S64x132096x256, .f32⟩
  | .hbm, ⟨11, _⟩ => ⟨S64x132096x256, .f32⟩
  | .hbm, ⟨12, _⟩ => ⟨S64x132096x256, .f32⟩
  | .hbm, ⟨13, _⟩ => ⟨S_, .f32⟩
  | .hbm, ⟨14, _⟩ => ⟨S64x132096x256, .f32⟩
  | .hbm, ⟨15, _⟩ => ⟨S64x132096x256, .f32⟩
  | .hbm, ⟨16, _⟩ => ⟨S_, .f32⟩
  | .hbm, ⟨17, _⟩ => ⟨S64x132096x256, .f32⟩
  | .hbm, ⟨18, _⟩ => ⟨S64x132096x256, .f32⟩
  | .hbm, ⟨19, _⟩ => ⟨S64x132096x256, .f32⟩
  | .hbm, ⟨20, _⟩ => ⟨S64x132096x256, .f32⟩
  | .hbm, ⟨21, _⟩ => ⟨S64x132096x256, .f32⟩
  | .hbm, ⟨22, _⟩ => ⟨S64x132096x1024, .f32⟩
  | .hbm, ⟨23, _⟩ => ⟨S132096x64, .f32⟩
  | .hbm, ⟨24, _⟩ => ⟨S64x132096, .f32⟩
  | .hbm, ⟨25, _⟩ => ⟨S64x132096x1, .f32⟩
  | .hbm, ⟨26, _⟩ => ⟨S64x132096x1024, .f32⟩
  | .hbm, ⟨27, _⟩ => ⟨S64x132096x1024, .f32⟩
  | .hbm, ⟨28, _⟩ => ⟨S_, .f32⟩
  | .hbm, ⟨29, _⟩ => ⟨S132096x1024, .f32⟩
  | .hbm, ⟨30, _⟩ => ⟨S132096x512, .f32⟩
  | .hbm, ⟨31, _⟩ => ⟨S132096x256, .f32⟩
  | .hbm, ⟨32, _⟩ => ⟨S132096x256, .f32⟩
  | .hbm, ⟨33, _⟩ => ⟨S132096x256, .f32⟩
  | .hbm, ⟨34, _⟩ => ⟨S_, .f32⟩
  | .hbm, ⟨35, _⟩ => ⟨S132096x256, .f32⟩
  | .hbm, ⟨36, _⟩ => ⟨S132096x256, .f32⟩
  | .hbm, ⟨37, _⟩ => ⟨S_, .f32⟩
  | .hbm, ⟨38, _⟩ => ⟨S132096x256, .f32⟩
  | .hbm, ⟨39, _⟩ => ⟨S132096x256, .f32⟩
  | .hbm, ⟨40, _⟩ => ⟨S132096x256, .f32⟩
  | .hbm, ⟨41, _⟩ => ⟨S132096x256, .f32⟩
  | .hbm, ⟨42, _⟩ => ⟨S132096x256, .f32⟩
  | .hbm, ⟨43, _⟩ => ⟨S132096x1024, .f32⟩
  | .hbm, ⟨44, _⟩ => ⟨S132096x1024, .f32⟩
  | .hbm, ⟨45, _⟩ => ⟨S_, .f32⟩
  | .hbm, ⟨46, _⟩ => ⟨S132096x1024, .f32⟩
  | .hbm, ⟨47, _⟩ => ⟨S132096x1024, .f32⟩
  | .hbm, ⟨48, _⟩ => ⟨S132096x1024, .f32⟩
  | .hbm, ⟨49, _⟩ => ⟨S_, .f32⟩
  | .hbm, ⟨50, _⟩ => ⟨S132096, .f32⟩
  | .hbm, ⟨51, _⟩ => ⟨S132096x1, .f32⟩
  | .hbm, ⟨52, _⟩ => ⟨S_, .f32⟩
  | .hbm, ⟨53, _⟩ => ⟨S132096x1, .f32⟩
  | .hbm, ⟨54, _⟩ => ⟨S132096x1, .f32⟩
  | .hbm, ⟨55, _⟩ => ⟨S132096x1024, .f32⟩
  | .hbm, ⟨56, _⟩ => ⟨S132096x1024, .f32⟩
  | .hbm, ⟨57, _⟩ => ⟨S132096x1024, .f32⟩
  | .hbm, ⟨58, _⟩ => ⟨S_, .f32⟩
  | .hbm, ⟨59, _⟩ => ⟨S132096, .f32⟩
  | .hbm, ⟨60, _⟩ => ⟨S132096x1, .f32⟩
  | .hbm, ⟨61, _⟩ => ⟨S_, .f32⟩
  | .hbm, ⟨62, _⟩ => ⟨S132096x1, .f32⟩
  | .hbm, ⟨63, _⟩ => ⟨S132096x1, .f32⟩
  | .hbm, ⟨64, _⟩ => ⟨S_, .f32⟩
  | .hbm, ⟨65, _⟩ => ⟨S132096x1, .f32⟩
  | .hbm, ⟨66, _⟩ => ⟨S132096x1, .f32⟩
  | .hbm, ⟨67, _⟩ => ⟨S132096x1, .f32⟩
  | .hbm, ⟨68, _⟩ => ⟨S132096x1024, .f32⟩
  | .hbm, ⟨69, _⟩ => ⟨S132096x1024, .f32⟩
  | .hbm, ⟨70, _⟩ => ⟨S1x1024, .f32⟩
  | .hbm, ⟨71, _⟩ => ⟨S132096x1024, .f32⟩
  | .hbm, ⟨72, _⟩ => ⟨S132096x1024, .f32⟩
  | .hbm, ⟨73, _⟩ => ⟨S1x1024, .f32⟩
  | .hbm, ⟨74, _⟩ => ⟨S132096x1024, .f32⟩
  | .hbm, ⟨75, _⟩ => ⟨S132096x1024, .f32⟩
  | _, _ => ⟨S132096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call1_v0 : Ref sig .tc := ⟨.hbm, 32, rfl⟩
abbrev main_call1_v1 : Ref sig .tc := ⟨.hbm, 33, rfl⟩
abbrev main_call1_cst : Ref sig .tc := ⟨.hbm, 34, rfl⟩
abbrev main_call1_v2 : Ref sig .tc := ⟨.hbm, 35, rfl⟩
abbrev main_call1_v3 : Ref sig .tc := ⟨.hbm, 36, rfl⟩
abbrev main_call1_cst_0 : Ref sig .tc := ⟨.hbm, 37, rfl⟩
abbrev main_call1_v4 : Ref sig .tc := ⟨.hbm, 38, rfl⟩
abbrev main_call1_v5 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_0 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_1 : Ref sig .tc := ⟨.hbm, 49, rfl⟩
abbrev main_v23 : Ref sig .tc := ⟨.hbm, 50, rfl⟩
abbrev main_v24 : Ref sig .tc := ⟨.hbm, 51, rfl⟩
abbrev main_cst_2 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_3 : Ref sig .tc := ⟨.hbm, 58, rfl⟩
abbrev main_v30 : Ref sig .tc := ⟨.hbm, 59, rfl⟩
abbrev main_v31 : Ref sig .tc := ⟨.hbm, 60, rfl⟩
abbrev main_cst_4 : Ref sig .tc := ⟨.hbm, 61, rfl⟩
abbrev main_v32 : Ref sig .tc := ⟨.hbm, 62, rfl⟩
abbrev main_v33 : Ref sig .tc := ⟨.hbm, 63, rfl⟩
abbrev main_cst_5 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩

abbrev nD : Nat := 1
abbrev τ : Topo := Topo.v7x

variable {F : FTy → Type} [FloatOps F]
-- ==== KernelGlobal.lean ====
abbrev S132096x1536 : Shape := ⟨2, ![132096, 1536]⟩
abbrev S132096x384 : Shape := ⟨2, ![132096, 384]⟩
abbrev S128x512 : Shape := ⟨2, ![128, 512]⟩
abbrev S2048x128 : Shape := ⟨2, ![2048, 128]⟩
abbrev S16x128 : Shape := ⟨2, ![16, 128]⟩
abbrev S128x128 : Shape := ⟨2, ![128, 128]⟩
abbrev S512x128 : Shape := ⟨2, ![512, 128]⟩
abbrev S512x16 : Shape := ⟨2, ![512, 16]⟩
abbrev S512 : Shape := ⟨1, ![512]⟩
abbrev S512x1 : Shape := ⟨2, ![512, 1]⟩
abbrev S512x512 : Shape := ⟨2, ![512, 512]⟩
abbrev S128x256 : Shape := ⟨2, ![128, 256]⟩

abbrev nBuf : Space → Nat
  | .hbm => 5
  | .vmem => 12
  | .smem => 0
  | _ => 0

abbrev bufTy : (tb : Table) → Fin (tcTables nBuf tb) → BufTy
  | .hbm, ⟨0, _⟩ => ⟨S132096x1536, .bf16⟩
  | .hbm, ⟨1, _⟩ => ⟨S132096x384, .bf16⟩
  | .hbm, ⟨2, _⟩ => ⟨S132096x384, .bf16⟩
  | .hbm, ⟨3, _⟩ => ⟨S132096x1536, .bf16⟩
  | .hbm, ⟨4, _⟩ => ⟨S132096x1536, .bf16⟩
  | .local _ .vmem, ⟨0, _⟩ => ⟨S128x512, .bf16⟩
  | .local _ .vmem, ⟨1, _⟩ => ⟨S128x512, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S16x128, .bf16⟩
  | .local _ .vmem, ⟨7, _⟩ => ⟨S16x128, .bf16⟩
  | .local _ .vmem, ⟨8, _⟩ => ⟨S16x128, .bf16⟩
  | .local _ .vmem, ⟨9, _⟩ => ⟨S16x128, .bf16⟩
  | .local _ .vmem, ⟨10, _⟩ => ⟨S128x512, .bf16⟩
  | .local _ .vmem, ⟨11, _⟩ => ⟨S128x512, .bf16⟩
  | _, _ => ⟨S132096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c512_i32 : BitVec 32 := 512#32
  let v1 : BitVec 32 := Scalar.addi c512_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c8208_i32 : BitVec 32 := 8208#32
  let v0 : BitVec 32 := Scalar.addi c8208_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c8208_i32 : BitVec 32 := 8208#32
  let v0 : BitVec 32 := Scalar.addi c8208_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c512_i32 : BitVec 32 := 512#32
  let v1 : BitVec 32 := Scalar.addi c512_i32 v0
  let v2 : BitVec 32 := Scalar.addi v1 arg1
  let c0_i32 : BitVec 32 := 0#32
  let c0_i32_0 : BitVec 32 := 0#32
  ![v2.toNat, c0_i32.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceGlobalIdeal.lean ====
abbrev S132096x1536 : Shape := ⟨2, ![132096, 1536]⟩
abbrev S132096x384 : Shape := ⟨2, ![132096, 384]⟩
abbrev S65536x512 : Shape := ⟨2, ![65536, 512]⟩
abbrev S32x2048x2x4x64 : Shape := ⟨5, ![32, 2048, 2, 4, 64]⟩
abbrev S65536x128 : Shape := ⟨2, ![65536, 128]⟩
abbrev S32x2048x2x64 : Shape := ⟨4, ![32, 2048, 2, 64]⟩
abbrev S512x128 : Shape := ⟨2, ![512, 128]⟩
abbrev S32x16x2x64 : Shape := ⟨4, ![32, 16, 2, 64]⟩
abbrev S32x2064x2x64 : Shape := ⟨4, ![32, 2064, 2, 64]⟩
abbrev S32x2x2064x2048x4 : Shape := ⟨5, ![32, 2, 2064, 2048, 4]⟩
abbrev S32x2x4x2048x2064 : Shape := ⟨5, ![32, 2, 4, 2048, 2064]⟩
abbrev S_ : Shape := ⟨0, ![]⟩
abbrev S32x2x4x2048 : Shape := ⟨4, ![32, 2, 4, 2048]⟩
abbrev S32x2x4x2048x1 : Shape := ⟨5, ![32, 2, 4, 2048, 1]⟩
abbrev S32x2x64x4x2048 : Shape := ⟨5, ![32, 2, 64, 4, 2048]⟩
abbrev S65536x1024 : Shape := ⟨2, ![65536, 1024]⟩
abbrev S65536x1536 : Shape := ⟨2, ![65536, 1536]⟩
abbrev S1024x1536 : Shape := ⟨2, ![1024, 1536]⟩

abbrev nBuf : Space → Nat
  | .hbm => 44
  | .vmem => 0
  | .smem => 0
  | _ => 0

abbrev bufTy : (tb : Table) → Fin (tcTables nBuf tb) → BufTy
  | .hbm, ⟨0, _⟩ => ⟨S132096x1536, .bf16⟩
  | .hbm, ⟨1, _⟩ => ⟨S132096x384, .bf16⟩
  | .hbm, ⟨2, _⟩ => ⟨S132096x384, .bf16⟩
  | .hbm, ⟨3, _⟩ => ⟨S132096x1536, .bf16⟩
  | .hbm, ⟨4, _⟩ => ⟨S132096x1536, .f32⟩
  | .hbm, ⟨5, _⟩ => ⟨S132096x384, .f32⟩
  | .hbm, ⟨6, _⟩ => ⟨S132096x384, .f32⟩
  | .hbm, ⟨7, _⟩ => ⟨S65536x512, .f32⟩
  | .hbm, ⟨8, _⟩ => ⟨S32x2048x2x4x64, .f32⟩
  | .hbm, ⟨9, _⟩ => ⟨S65536x128, .f32⟩
  | .hbm, ⟨10, _⟩ => ⟨S32x2048x2x64, .f32⟩
  | .hbm, ⟨11, _⟩ => ⟨S512x128, .f32⟩
  | .hbm, ⟨12, _⟩ => ⟨S32x16x2x64, .f32⟩
  | .hbm, ⟨13, _⟩ => ⟨S32x2064x2x64, .f32⟩
  | .hbm, ⟨14, _⟩ => ⟨S65536x128, .f32⟩
  | .hbm, ⟨15, _⟩ => ⟨S32x2048x2x64, .f32⟩
  | .hbm, ⟨16, _⟩ => ⟨S512x128, .f32⟩
  | .hbm, ⟨17, _⟩ => ⟨S32x16x2x64, .f32⟩
  | .hbm, ⟨18, _⟩ => ⟨S32x2064x2x64, .f32⟩
  | .hbm, ⟨19, _⟩ => ⟨S32x2x2064x2048x4, .f32⟩
  | .hbm, ⟨20, _⟩ => ⟨S32x2x4x2048x2064, .f32⟩
  | .hbm, ⟨21, _⟩ => ⟨S_, .f32⟩
  | .hbm, ⟨22, _⟩ => ⟨S32x2x4x2048, .f32⟩
  | .hbm, ⟨23, _⟩ => ⟨S_, .f32⟩
  | .hbm, ⟨24, _⟩ => ⟨S32x2x4x2048, .f32⟩
  | .hbm, ⟨25, _⟩ => ⟨S32x2x4x2048, .f32⟩
  | .hbm, ⟨26, _⟩ => ⟨S32x2x4x2048x1, .f32⟩
  | .hbm, ⟨27, _⟩ => ⟨S32x2x4x2048x2064, .f32⟩
  | .hbm, ⟨28, _⟩ => ⟨S32x2x4x2048x2064, .f32⟩
  | .hbm, ⟨29, _⟩ => ⟨S32x2x4x2048x2064, .f32⟩
  | .hbm, ⟨30, _⟩ => ⟨S_, .f32⟩
  | .hbm, ⟨31, _⟩ => ⟨S32x2x4x2048, .f32⟩
  | .hbm, ⟨32, _⟩ => ⟨S32x2x4x2048x1, .f32⟩
  | .hbm, ⟨33, _⟩ => ⟨S32x2x4x2048x2064, .f32⟩
  | .hbm, ⟨34, _⟩ => ⟨S32x2x4x2048x2064, .f32⟩
  | .hbm, ⟨35, _⟩ => ⟨S32x2x64x4x2048, .f32⟩
  | .hbm, ⟨36, _⟩ => ⟨S32x2048x2x4x64, .f32⟩
  | .hbm, ⟨37, _⟩ => ⟨S65536x512, .f32⟩
  | .hbm, ⟨38, _⟩ => ⟨S65536x512, .bf16⟩
  | .hbm, ⟨39, _⟩ => ⟨S65536x1024, .bf16⟩
  | .hbm, ⟨40, _⟩ => ⟨S65536x1536, .bf16⟩
  | .hbm, ⟨41, _⟩ => ⟨S65536x1536, .bf16⟩
  | .hbm, ⟨42, _⟩ => ⟨S1024x1536, .bf16⟩
  | .hbm, ⟨43, _⟩ => ⟨S132096x1536, .bf16⟩
  | _, _ => ⟨S132096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩

abbrev nD : Nat := 1
abbrev τ : Topo := Topo.v7x

variable {F : FTy → Type} [FloatOps F]
-- ==== KernelMerge.lean ====
abbrev S132096x1024 : Shape := ⟨2, ![132096, 1024]⟩
abbrev S132096x1536 : Shape := ⟨2, ![132096, 1536]⟩
abbrev S1024x5376 : Shape := ⟨2, ![1024, 5376]⟩
abbrev S3x512x1024 : Shape := ⟨3, ![3, 512, 1024]⟩
abbrev S1024x1024 : Shape := ⟨2, ![1024, 1024]⟩
abbrev S1024 : Shape := ⟨1, ![1024]⟩
abbrev S1024x64 : Shape := ⟨2, ![1024, 64]⟩
abbrev S64 : Shape := ⟨1, ![64]⟩
abbrev S64x1024 : Shape := ⟨2, ![64, 1024]⟩
abbrev S1024x3072 : Shape := ⟨2, ![1024, 3072]⟩
abbrev S1x1024 : Shape := ⟨2, ![1, 1024]⟩
abbrev S64x1 : Shape := ⟨2, ![64, 1]⟩
abbrev S132096x128 : Shape := ⟨2, ![132096, 128]⟩
abbrev S512x1024 : Shape := ⟨2, ![512, 1024]⟩
abbrev S512x1536 : Shape := ⟨2, ![512, 1536]⟩
abbrev S512x128 : Shape := ⟨2, ![512, 128]⟩
abbrev S512x512 : Shape := ⟨2, ![512, 512]⟩
abbrev S1x512x1024 : Shape := ⟨3, ![1, 512, 1024]⟩
abbrev S512 : Shape := ⟨1, ![512]⟩
abbrev S512x1 : Shape := ⟨2, ![512, 1]⟩
abbrev S64x512 : Shape := ⟨2, ![64, 512]⟩
abbrev S8x8x512 : Shape := ⟨3, ![8, 8, 512]⟩
abbrev S8x512 : Shape := ⟨2, ![8, 512]⟩
abbrev S8x1x512 : Shape := ⟨3, ![8, 1, 512]⟩
abbrev S1x512 : Shape := ⟨2, ![1, 512]⟩
abbrev S128x512 : Shape := ⟨2, ![128, 512]⟩

abbrev nBuf : Space → Nat
  | .hbm => 23
  | .vmem => 16
  | .smem => 0
  | _ => 0

abbrev bufTy : (tb : Table) → Fin (tcTables nBuf tb) → BufTy
  | .hbm, ⟨0, _⟩ => ⟨S132096x1024, .f32⟩
  | .hbm, ⟨1, _⟩ => ⟨S132096x1536, .bf16⟩
  | .hbm, ⟨2, _⟩ => ⟨S1024x5376, .f32⟩
  | .hbm, ⟨3, _⟩ => ⟨S3x512x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x64, .f32⟩
  | .hbm, ⟨8, _⟩ => ⟨S64, .f32⟩
  | .hbm, ⟨9, _⟩ => ⟨S64x1024, .f32⟩
  | .hbm, ⟨10, _⟩ => ⟨S64x1024, .bf16⟩
  | .hbm, ⟨11, _⟩ => ⟨S1024x3072, .f32⟩
  | .hbm, ⟨12, _⟩ => ⟨S1024x3072, .bf16⟩
  | .hbm, ⟨13, _⟩ => ⟨S3x512x1024, .bf16⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S64x1024, .f32⟩
  | .hbm, ⟨18, _⟩ => ⟨S64x1024, .f32⟩
  | .hbm, ⟨19, _⟩ => ⟨S64x1024, .bf16⟩
  | .hbm, ⟨20, _⟩ => ⟨S64x1, .f32⟩
  | .hbm, ⟨21, _⟩ => ⟨S132096x1024, .f32⟩
  | .hbm, ⟨22, _⟩ => ⟨S132096x128, .f32⟩
  | .local _ .vmem, ⟨0, _⟩ => ⟨S512x1024, .f32⟩
  | .local _ .vmem, ⟨1, _⟩ => ⟨S512x1024, .f32⟩
  | .local _ .vmem, ⟨2, _⟩ => ⟨S512x1536, .bf16⟩
  | .local _ .vmem, ⟨3, _⟩ => ⟨S512x1536, .bf16⟩
  | .local _ .vmem, ⟨4, _⟩ => ⟨S1024x3072, .bf16⟩
  | .local _ .vmem, ⟨5, _⟩ => ⟨S3x512x1024, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S64x1024, .bf16⟩
  | .local _ .vmem, ⟨10, _⟩ => ⟨S64x1024, .bf16⟩
  | .local _ .vmem, ⟨11, _⟩ => ⟨S64x1, .f32⟩
  | .local _ .vmem, ⟨12, _⟩ => ⟨S512x1024, .f32⟩
  | .local _ .vmem, ⟨13, _⟩ => ⟨S512x1024, .f32⟩
  | .local _ .vmem, ⟨14, _⟩ => ⟨S512x128, .f32⟩
  | .local _ .vmem, ⟨15, _⟩ => ⟨S512x128, .f32⟩
  | _, _ => ⟨S132096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![258], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceMergeIdeal.lean ====
abbrev S132096x1024 : Shape := ⟨2, ![132096, 1024]⟩
abbrev S132096x1536 : Shape := ⟨2, ![132096, 1536]⟩
abbrev S1024x5376 : Shape := ⟨2, ![1024, 5376]⟩
abbrev S3x512x1024 : Shape := ⟨3, ![3, 512, 1024]⟩
abbrev S1024x1024 : Shape := ⟨2, ![1024, 1024]⟩
abbrev S1024 : Shape := ⟨1, ![1024]⟩
abbrev S1024x64 : Shape := ⟨2, ![1024, 64]⟩
abbrev S64 : Shape := ⟨1, ![64]⟩
abbrev S1024x3072 : Shape := ⟨2, ![1024, 3072]⟩
abbrev S132096x3072 : Shape := ⟨2, ![132096, 3072]⟩
abbrev S132096x3x1024 : Shape := ⟨3, ![132096, 3, 1024]⟩
abbrev S132096x3x512 : Shape := ⟨3, ![132096, 3, 512]⟩
abbrev S3x1024x132096 : Shape := ⟨3, ![3, 1024, 132096]⟩
abbrev S_ : Shape := ⟨0, ![]⟩
abbrev S132096 : Shape := ⟨1, ![132096]⟩
abbrev S132096x1 : Shape := ⟨2, ![132096, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S132096x1024, .f32⟩
  | .hbm, ⟨1, _⟩ => ⟨S132096x1536, .bf16⟩
  | .hbm, ⟨2, _⟩ => ⟨S1024x5376, .f32⟩
  | .hbm, ⟨3, _⟩ => ⟨S3x512x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x64, .f32⟩
  | .hbm, ⟨8, _⟩ => ⟨S64, .f32⟩
  | .hbm, ⟨9, _⟩ => ⟨S1024x3072, .f32⟩
  | .hbm, ⟨10, _⟩ => ⟨S132096x3072, .f32⟩
  | .hbm, ⟨11, _⟩ => ⟨S132096x3x1024, .f32⟩
  | .hbm, ⟨12, _⟩ => ⟨S132096x1536, .f32⟩
  | .hbm, ⟨13, _⟩ => ⟨S132096x3x512, .f32⟩
  | .hbm, ⟨14, _⟩ => ⟨S3x1024x132096, .f32⟩
  | .hbm, ⟨15, _⟩ => ⟨S132096x3x1024, .f32⟩
  | .hbm, ⟨16, _⟩ => ⟨S132096x3x1024, .f32⟩
  | .hbm, ⟨17, _⟩ => ⟨S132096x3x1024, .f32⟩
  | .hbm, ⟨18, _⟩ => ⟨S_, .f32⟩
  | .hbm, ⟨19, _⟩ => ⟨S132096x3x1024, .f32⟩
  | .hbm, ⟨20, _⟩ => ⟨S132096x3x1024, .f32⟩
  | .hbm, ⟨21, _⟩ => ⟨S_, .f32⟩
  | .hbm, ⟨22, _⟩ => ⟨S132096x3x1024, .f32⟩
  | .hbm, ⟨23, _⟩ => ⟨S132096x3x1024, .f32⟩
  | .hbm, ⟨24, _⟩ => ⟨S132096x3x1024, .f32⟩
  | .hbm, ⟨25, _⟩ => ⟨S_, .f32⟩
  | .hbm, ⟨26, _⟩ => ⟨S132096x1024, .f32⟩
  | .hbm, ⟨27, _⟩ => ⟨S_, .f32⟩
  | .hbm, ⟨28, _⟩ => ⟨S132096x1024, .f32⟩
  | .hbm, ⟨29, _⟩ => ⟨S132096x1024, .f32⟩
  | .hbm, ⟨30, _⟩ => ⟨S132096x1024, .f32⟩
  | .hbm, ⟨31, _⟩ => ⟨S132096x1024, .f32⟩
  | .hbm, ⟨32, _⟩ => ⟨S_, .f32⟩
  | .hbm, ⟨33, _⟩ => ⟨S132096, .f32⟩
  | .hbm, ⟨34, _⟩ => ⟨S132096x1, .f32⟩
  | .hbm, ⟨35, _⟩ => ⟨S_, .f32⟩
  | .hbm, ⟨36, _⟩ => ⟨S132096x1, .f32⟩
  | .hbm, ⟨37, _⟩ => ⟨S132096x1, .f32⟩
  | .hbm, ⟨38, _⟩ => ⟨S132096x1024, .f32⟩
  | .hbm, ⟨39, _⟩ => ⟨S132096x1024, .f32⟩
  | .hbm, ⟨40, _⟩ => ⟨S132096x1024, .f32⟩
  | .hbm, ⟨41, _⟩ => ⟨S_, .f32⟩
  | .hbm, ⟨42, _⟩ => ⟨S132096, .f32⟩
  | .hbm, ⟨43, _⟩ => ⟨S132096x1, .f32⟩
  | .hbm, ⟨44, _⟩ => ⟨S_, .f32⟩
  | .hbm, ⟨45, _⟩ => ⟨S132096x1, .f32⟩
  | .hbm, ⟨46, _⟩ => ⟨S132096x1, .f32⟩
  | .hbm, ⟨47, _⟩ => ⟨S_, .f32⟩
  | .hbm, ⟨48, _⟩ => ⟨S132096x1, .f32⟩
  | .hbm, ⟨49, _⟩ => ⟨S132096x1, .f32⟩
  | .hbm, ⟨50, _⟩ => ⟨S132096x1, .f32⟩
  | .hbm, ⟨51, _⟩ => ⟨S132096x1024, .f32⟩
  | .hbm, ⟨52, _⟩ => ⟨S132096x1024, .f32⟩
  | .hbm, ⟨53, _⟩ => ⟨S1x1024, .f32⟩
  | .hbm, ⟨54, _⟩ => ⟨S132096x1024, .f32⟩
  | .hbm, ⟨55, _⟩ => ⟨S132096x1024, .f32⟩
  | .hbm, ⟨56, _⟩ => ⟨S1x1024, .f32⟩
  | .hbm, ⟨57, _⟩ => ⟨S132096x1024, .f32⟩
  | .hbm, ⟨58, _⟩ => ⟨S132096x1024, .f32⟩
  | _, _ => ⟨S132096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]
-- ==== KernelFirst.lean ====
abbrev S132096x1536 : Shape := ⟨2, ![132096, 1536]⟩
abbrev S132096x384 : Shape := ⟨2, ![132096, 384]⟩
abbrev S128x512 : Shape := ⟨2, ![128, 512]⟩
abbrev S4096x128 : Shape := ⟨2, ![4096, 128]⟩
abbrev S16x128 : Shape := ⟨2, ![16, 128]⟩
abbrev S128x128 : Shape := ⟨2, ![128, 128]⟩
abbrev S512x128 : Shape := ⟨2, ![512, 128]⟩
abbrev S512x16 : Shape := ⟨2, ![512, 16]⟩
abbrev S512 : Shape := ⟨1, ![512]⟩
abbrev S512x1 : Shape := ⟨2, ![512, 1]⟩
abbrev S512x512 : Shape := ⟨2, ![512, 512]⟩
abbrev S128x256 : Shape := ⟨2, ![128, 256]⟩
abbrev S65536x512 : Shape := ⟨2, ![65536, 512]⟩

abbrev nBuf : Space → Nat
  | .hbm => 5
  | .vmem => 12
  | .smem => 0
  | _ => 0

abbrev bufTy : (tb : Table) → Fin (tcTables nBuf tb) → BufTy
  | .hbm, ⟨0, _⟩ => ⟨S132096x1536, .bf16⟩
  | .hbm, ⟨1, _⟩ => ⟨S132096x384, .bf16⟩
  | .hbm, ⟨2, _⟩ => ⟨S132096x384, .bf16⟩
  | .hbm, ⟨3, _⟩ => ⟨S132096x1536, .bf16⟩
  | .hbm, ⟨4, _⟩ => ⟨S65536x512, .bf16⟩
  | .local _ .vmem, ⟨0, _⟩ => ⟨S128x512, .bf16⟩
  | .local _ .vmem, ⟨1, _⟩ => ⟨S128x512, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S16x128, .bf16⟩
  | .local _ .vmem, ⟨7, _⟩ => ⟨S16x128, .bf16⟩
  | .local _ .vmem, ⟨8, _⟩ => ⟨S16x128, .bf16⟩
  | .local _ .vmem, ⟨9, _⟩ => ⟨S16x128, .bf16⟩
  | .local _ .vmem, ⟨10, _⟩ => ⟨S128x512, .bf16⟩
  | .local _ .vmem, ⟨11, _⟩ => ⟨S128x512, .bf16⟩
  | _, _ => ⟨S132096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8192_i32 : BitVec 32 := 8192#32
  let v0 : BitVec 32 := Scalar.addi c8192_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c8192_i32 : BitVec 32 := 8192#32
  let v0 : BitVec 32 := Scalar.addi c8192_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceFirstIdeal.lean ====
abbrev S132096x1536 : Shape := ⟨2, ![132096, 1536]⟩
abbrev S132096x384 : Shape := ⟨2, ![132096, 384]⟩
abbrev S65536x512 : Shape := ⟨2, ![65536, 512]⟩
abbrev S16x4096x2x4x64 : Shape := ⟨5, ![16, 4096, 2, 4, 64]⟩
abbrev S65536x128 : Shape := ⟨2, ![65536, 128]⟩
abbrev S16x4096x2x64 : Shape := ⟨4, ![16, 4096, 2, 64]⟩
abbrev S256x128 : Shape := ⟨2, ![256, 128]⟩
abbrev S16x16x2x64 : Shape := ⟨4, ![16, 16, 2, 64]⟩
abbrev S16x4112x2x64 : Shape := ⟨4, ![16, 4112, 2, 64]⟩
abbrev S16x2x4112x4096x4 : Shape := ⟨5, ![16, 2, 4112, 4096, 4]⟩
abbrev S16x2x4x4096x4112 : Shape := ⟨5, ![16, 2, 4, 4096, 4112]⟩
abbrev S_ : Shape := ⟨0, ![]⟩
abbrev S16x2x4x4096 : Shape := ⟨4, ![16, 2, 4, 4096]⟩
abbrev S16x2x4x4096x1 : Shape := ⟨5, ![16, 2, 4, 4096, 1]⟩
abbrev S16x2x64x4x4096 : Shape := ⟨5, ![16, 2, 64, 4, 4096]⟩

abbrev nBuf : Space → Nat
  | .hbm => 38
  | .vmem => 0
  | .smem => 0
  | _ => 0

abbrev bufTy : (tb : Table) → Fin (tcTables nBuf tb) → BufTy
  | .hbm, ⟨0, _⟩ => ⟨S132096x1536, .bf16⟩
  | .hbm, ⟨1, _⟩ => ⟨S132096x384, .bf16⟩
  | .hbm, ⟨2, _⟩ => ⟨S132096x384, .bf16⟩
  | .hbm, ⟨3, _⟩ => ⟨S132096x1536, .f32⟩
  | .hbm, ⟨4, _⟩ => ⟨S132096x384, .f32⟩
  | .hbm, ⟨5, _⟩ => ⟨S132096x384, .f32⟩
  | .hbm, ⟨6, _⟩ => ⟨S65536x512, .f32⟩
  | .hbm, ⟨7, _⟩ => ⟨S16x4096x2x4x64, .f32⟩
  | .hbm, ⟨8, _⟩ => ⟨S65536x128, .f32⟩
  | .hbm, ⟨9, _⟩ => ⟨S16x4096x2x64, .f32⟩
  | .hbm, ⟨10, _⟩ => ⟨S256x128, .f32⟩
  | .hbm, ⟨11, _⟩ => ⟨S16x16x2x64, .f32⟩
  | .hbm, ⟨12, _⟩ => ⟨S16x4112x2x64, .f32⟩
  | .hbm, ⟨13, _⟩ => ⟨S65536x128, .f32⟩
  | .hbm, ⟨14, _⟩ => ⟨S16x4096x2x64, .f32⟩
  | .hbm, ⟨15, _⟩ => ⟨S256x128, .f32⟩
  | .hbm, ⟨16, _⟩ => ⟨S16x16x2x64, .f32⟩
  | .hbm, ⟨17, _⟩ => ⟨S16x4112x2x64, .f32⟩
  | .hbm, ⟨18, _⟩ => ⟨S16x2x4112x4096x4, .f32⟩
  | .hbm, ⟨19, _⟩ => ⟨S16x2x4x4096x4112, .f32⟩
  | .hbm, ⟨20, _⟩ => ⟨S_, .f32⟩
  | .hbm, ⟨21, _⟩ => ⟨S16x2x4x4096, .f32⟩
  | .hbm, ⟨22, _⟩ => ⟨S_, .f32⟩
  | .hbm, ⟨23, _⟩ => ⟨S16x2x4x4096, .f32⟩
  | .hbm, ⟨24, _⟩ => ⟨S16x2x4x4096, .f32⟩
  | .hbm, ⟨25, _⟩ => ⟨S16x2x4x4096x1, .f32⟩
  | .hbm, ⟨26, _⟩ => ⟨S16x2x4x4096x4112, .f32⟩
  | .hbm, ⟨27, _⟩ => ⟨S16x2x4x4096x4112, .f32⟩
  | .hbm, ⟨28, _⟩ => ⟨S16x2x4x4096x4112, .f32⟩
  | .hbm, ⟨29, _⟩ => ⟨S_, .f32⟩
  | .hbm, ⟨30, _⟩ => ⟨S16x2x4x4096, .f32⟩
  | .hbm, ⟨31, _⟩ => ⟨S16x2x4x4096x1, .f32⟩
  | .hbm, ⟨32, _⟩ => ⟨S16x2x4x4096x4112, .f32⟩
  | .hbm, ⟨33, _⟩ => ⟨S16x2x4x4096x4112, .f32⟩
  | .hbm, ⟨34, _⟩ => ⟨S16x2x64x4x4096, .f32⟩
  | .hbm, ⟨35, _⟩ => ⟨S16x4096x2x4x64, .f32⟩
  | .hbm, ⟨36, _⟩ => ⟨S65536x512, .f32⟩
  | .hbm, ⟨37, _⟩ => ⟨S65536x512, .bf16⟩
  | _, _ => ⟨S132096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩

abbrev nD : Nat := 1
abbrev τ : Topo := Topo.v7x

variable {F : FTy → Type} [FloatOps F]
-- ==== Proof.MoeSpec.lean ====
/- The mixture-of-experts layer as functions of extended reals, and the laws that join its two forms.

   `hidden` is one unit of a SwiGLU feed-forward, `expert` the feed-forward of one expert, `routed` the gated sum of
   the experts. The reference multiplies each expert's output by its gate. The kernel multiplies each hidden unit by
   the gate before the second product (`gatedExpert`). A gate that is finite and not negative goes through the sum
   (`mul_expert`), so the two agree. `normalized` is the layer norm of one row. -/
module

public import Idealize.ShloMosaic.Lib.Pointwise
public import Idealize.ShloMosaic.Lib.IdealHost

@[expose] public section

noncomputable section

open Idealize.ShloMosaic

namespace Moe

/-- The SwiGLU of a gate value `a` and an up value `b`: `a / (1 + exp (-a)) * b`. -/
def glu (a b : EReal) : EReal := Ideal.div a (1 + Ideal.exp (-a)) * b

/-- Hidden unit `f` of a feed-forward on the row `x`: the weights hold the 256 gate columns, then the 256 up columns. -/
def hidden (x : Fin 1024 → EReal) (w : Fin 1024 → Fin 512 → EReal) (f : Fin 256) : EReal :=
  glu (∑ k, x k * w k ⟨f.val, by omega⟩) (∑ k, x k * w k ⟨256 + f.val, by omega⟩)

/-- The feed-forward of one expert on the row `x`, at output column `d`. -/
def expert (x : Fin 1024 → EReal) (w : Fin 1024 → Fin 512 → EReal) (v : Fin 256 → Fin 1024 → EReal) (d : Fin 1024) : EReal :=
  ∑ f, hidden x w f * v f d

/-- The same with every hidden unit multiplied by the gate `g` first. -/
def gatedExpert (x : Fin 1024 → EReal) (g : EReal) (w : Fin 1024 → Fin 512 → EReal) (v : Fin 256 → Fin 1024 → EReal)
    (d : Fin 1024) : EReal :=
  ∑ f, hidden x w f * g * v f d

/-- The residual stream before the norm: `alpha * x`, the gated experts and the shared expert. -/
def residual (alpha : EReal) (x : Fin 1024 → EReal) (experts shared : EReal) (d : Fin 1024) : EReal :=
  alpha * x d + experts + shared

/-- The layer norm of the row `z` at column `d`, with the divisor `n` of both means and the constant `eps`. -/
def normalized (n eps : EReal) (z : Fin 1024 → EReal) (gain bias : Fin 1024 → EReal) (d : Fin 1024) : EReal :=
  (z d - Ideal.div (∑ k, z k) n)
      * Ideal.rsqrt (Ideal.div (∑ k, (z k - Ideal.div (∑ j, z j) n) * (z k - Ideal.div (∑ j, z j) n)) n + eps)
      * gain d + bias d

/-- A finite factor that is not negative goes through a sum of extended reals. -/
theorem mul_sum_of_nonneg {ι : Type} (s : Finset ι) (g : EReal) (hg : 0 ≤ g) (hg' : g ≠ ⊤) (u : ι → EReal) :
    g * ∑ i ∈ s, u i = ∑ i ∈ s, g * u i := by
  classical
  induction s using Finset.induction_on with
  | empty => simp
  | insert a s ha ih => rw [Finset.sum_insert ha, Finset.sum_insert ha, EReal.left_distrib_of_nonneg_of_ne_top hg hg', ih]

/-- So the gated expert is the expert times its gate. -/
theorem mul_expert (x : Fin 1024 → EReal) (g : EReal) (hg : 0 ≤ g) (hg' : g ≠ ⊤) (w : Fin 1024 → Fin 512 → EReal)
    (v : Fin 256 → Fin 1024 → EReal) (d : Fin 1024) : gatedExpert x g w v d = g * expert x w v d := by
  unfold gatedExpert expert
  rw [mul_sum_of_nonneg _ g hg hg']
  refine Finset.sum_congr rfl fun f _ => ?_
  rw [mul_comm (hidden x w f) g, mul_assoc]

/-- The exponential of an extended real is not negative. -/
theorem exp_nonneg (a : EReal) : 0 ≤ Ideal.exp a := by
  induction a with
  | bot => exact le_refl _
  | top => exact le_top
  | coe r => exact EReal.coe_nonneg.mpr (Real.exp_pos r).le

/-- So the logistic function's denominator is not zero. -/
theorem one_add_exp_ne_zero (a : EReal) : 1 + Ideal.exp a ≠ 0 :=
  (lt_of_lt_of_le zero_lt_one (le_add_of_nonneg_right (exp_nonneg a))).ne'

/-- The reference's spelling of `glu`: the gate value times its logistic. -/
theorem mul_logistic (a b : EReal) : a * Ideal.div 1 (1 + Ideal.exp (-a)) * b = glu a b := by
  unfold glu
  rw [Ideal.mul_one_div (one_add_exp_ne_zero _)]

/-- A row of values that are zero but at one lane sums to the value at that lane. -/
theorem sum_lane {n : ℕ} (g : Fin n → EReal) (l : Fin n) (p : Fin n → Prop) [DecidablePred p] (hp : ∀ x, p x ↔ x = l) :
    (∑ x, if p x then g x else 0) = g l := by
  simp only [hp]
  simp

end Moe
-- ==== Proof.MoePayload.lean ====
/- What the kernel's stores write, element by element: each payload of the printed body read at an index as the
   functions of MoeSpec.lean. -/
module

public import proofs.«01_k».proof.Proof.MoeSpec
public import proofs.«01_k».proof.Proof.Gen.KernelIdeal.Skeleton
public import Idealize.ShloMosaic.Lib.Tactic.WordOmega

@[expose] public section

set_option maxRecDepth 16384

noncomputable section

open Idealize.ShloMosaic

namespace Cert.KernelIdeal.Gen

/-- The masked lane sum picks the gate of expert `4 * e + u`. -/
theorem gate_lane (e u : ℕ) (he : e < 16) (hu : u < 4) (g : Fin 128 → EReal) :
    (∑ x : Fin 128, Scalar.select (IntOp.cmpi CmpIPredicate.eq (BitVec.ofNat 32 ↑x)
        (Scalar.addi (Scalar.muli (BitVec.ofNat 32 e) 4#32) (BitVec.ofNat 32 u))) (g x) 0) = g ⟨4 * e + u, by omega⟩ := by
  rw [← Moe.sum_lane g ⟨4 * e + u, by omega⟩ (fun x => x = ⟨4 * e + u, by omega⟩) (fun x => Iff.rfl)]
  refine Finset.sum_congr rfl fun x _ => ?_
  have hx := x.isLt
  have hk : Scalar.addi (Scalar.muli (BitVec.ofNat 32 e) 4#32) (BitVec.ofNat 32 u) = BitVec.ofNat 32 (4 * e + u) := by
    apply BitVec.eq_of_toNat_eq
    simp only [Scalar.addi, Scalar.muli, IntOp.addi, IntOp.muli, BitVec.toNat_add, BitVec.toNat_mul, BitVec.toNat_ofNat]
    omega
  have hc : IntOp.cmpi CmpIPredicate.eq (BitVec.ofNat 32 x.val) (BitVec.ofNat 32 (4 * e + u)) = 1#1 ↔ x = ⟨4 * e + u, by omega⟩ := by
    rw [Fin.ext_iff]
    constructor
    · intro h
      by_contra hne
      have hb : (BitVec.ofNat 32 x.val == BitVec.ofNat 32 (4 * e + u)) = false := by
        rw [beq_eq_false_iff_ne]
        intro hh
        have := congrArg BitVec.toNat hh
        simp only [BitVec.toNat_ofNat] at this
        simp only at hne
        omega
      simp [IntOp.cmpi, hb] at h
    · intro h
      simp only at h
      simp [IntOp.cmpi, h]
  rw [hk]
  simp only [Scalar.select]
  exact if_congr hc rfl rfl

/-- The first expert of a grid point: its payload adds its gated feed-forward to what it loads. -/
theorem pay10_apply (i : grid0.Coords) (hi : (i 1).val < 16) (x : Vec Ideal S1024x1024 .bf16) (g : Vec Ideal S1024x128 .f32)
    (w : Vec Ideal S1x1024x512 .bf16) (acc : Vec Ideal S1024x1024 .f32) (v : Vec Ideal S1x256x1024 .bf16) (r d : Fin 1024) :
    k0_pay10 i x g w acc v (ix2 r d) = acc (ix2 r d)
      + Moe.gatedExpert (fun k => x (ix2 r k)) (g (ix2 r ⟨4 * (i 1).val + 0, by omega⟩)) (fun k c => w (ix3 0 k c)) (fun f d => v (ix3 0 f d)) d := by
  pointwise [k0_pay10]
  rw [gate_lane (i 1).val 0 hi (by omega) fun l => g (ix2 r l)]
  simp only [zero_sub]
  rfl

theorem pay12_apply (e : ℕ) (he : e < 16) (x : Vec Ideal S1024x1024 .bf16) (g : Vec Ideal S1024x128 .f32)
    (w : Vec Ideal S1x1024x512 .bf16) (acc : Vec Ideal S1024x1024 .f32) (v : Vec Ideal S1x256x1024 .bf16) (r d : Fin 1024) :
    k0_pay12 (BitVec.ofNat 32 e) x g (iota .tc S1024x128 32 [1] iota_S1024x128_d1_w32) w acc v (ix2 r d) = acc (ix2 r d)
      + Moe.gatedExpert (fun k => x (ix2 r k)) (g (ix2 r ⟨4 * e + 1, by omega⟩)) (fun k c => w (ix3 0 k c)) (fun f d => v (ix3 0 f d)) d := by
  pointwise [k0_pay12]
  rw [gate_lane e 1 he (by omega) fun l => g (ix2 r l)]
  simp only [zero_sub]
  rfl

theorem pay14_apply (e : ℕ) (he : e < 16) (x : Vec Ideal S1024x1024 .bf16) (g : Vec Ideal S1024x128 .f32)
    (w : Vec Ideal S1x1024x512 .bf16) (acc : Vec Ideal S1024x1024 .f32) (v : Vec Ideal S1x256x1024 .bf16) (r d : Fin 1024) :
    k0_pay14 (BitVec.ofNat 32 e) x g (iota .tc S1024x128 32 [1] iota_S1024x128_d1_w32) (k0_pay13 w) acc v (ix2 r d) = acc (ix2 r d)
      + Moe.gatedExpert (fun k => x (ix2 r k)) (g (ix2 r ⟨4 * e + 2, by omega⟩)) (fun k c => w (ix3 0 k c)) (fun f d => v (ix3 0 f d)) d := by
  pointwise [k0_pay14, k0_pay13]
  rw [gate_lane e 2 he (by omega) fun l => g (ix2 r l)]
  simp only [zero_sub]
  rfl

theorem pay1_apply (e : ℕ) (he : e < 16) (x : Vec Ideal S1024x1024 .bf16) (g : Vec Ideal S1024x128 .f32)
    (w : Vec Ideal S1x1024x512 .bf16) (acc : Vec Ideal S1024x1024 .f32) (v : Vec Ideal S1x256x1024 .bf16) (r d : Fin 1024) :
    k0_pay1 (BitVec.ofNat 32 e) g (iota .tc S1024x128 32 [1] iota_S1024x128_d1_w32) (k0_pay15 x w) (k0_pay16 x w) (k0_pay17 x w) acc v (ix2 r d)
      = acc (ix2 r d)
      + Moe.gatedExpert (fun k => x (ix2 r k)) (g (ix2 r ⟨4 * e + 3, by omega⟩)) (fun k c => w (ix3 0 k c)) (fun f d => v (ix3 0 f d)) d := by
  pointwise [k0_pay1, k0_pay15, k0_pay16, k0_pay17]
  rw [gate_lane e 3 he (by omega) fun l => g (ix2 r l)]
  simp only [zero_sub]
  rfl

/-- The last point of a row block: the layer norm of the residual stream. -/
theorem pay2_apply (x : Vec Ideal S1024x1024 .bf16) (ws : Vec Ideal S1024x512 .bf16) (vs : Vec Ideal S256x1024 .bf16)
    (h acc : Vec Ideal S1024x1024 .f32) (gain bias : Vec Ideal S1x1024 .f32) (r d : Fin 1024) :
    k0_pay2 (k0_pay3 gain) (k0_pay4 bias) (k0_pay5 x ws vs h acc) (k0_pay6 x ws vs h acc) k0_pay7 (ix2 r d)
      = Moe.normalized (Ideal.ofBits .f32 0x44800000#32) (Ideal.ofBits .f32 0x3727C5AC#32)
          (fun j => Moe.residual (Ideal.ofBits .f32 0x3FD744FD#32) (fun k => h (ix2 r k)) (acc (ix2 r j))
            (Moe.expert (fun k => x (ix2 r k)) (fun k c => ws (ix2 k c)) (fun f d => vs (ix2 f d)) j) j)
          (fun k => gain (ix2 0 k)) (fun k => bias (ix2 0 k)) d := by
  pointwise [k0_pay2, k0_pay3, k0_pay4, k0_pay5, k0_pay6, k0_pay7]
  simp only [zero_sub]
  rfl

end Cert.KernelIdeal.Gen
-- ==== Proof.MoePoint.lean ====
/- What one grid point leaves: the four experts of its block added to the accumulator (`step`), the row block kept
   in scratch, and at the last point of a row block the layer norm. -/
module

public import proofs.«01_k».proof.Proof.MoePayload
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

open Idealize.ShloMosaic

namespace Cert.KernelIdeal.Gen

/-- The accumulator after the four experts of one grid point, as the stores write it. -/
def step (i : grid0.Coords) (x : Vec Ideal S1024x1024 .bf16) (g : Vec Ideal S1024x128 .f32)
    (w : Vec Ideal S4x1024x512 .bf16) (v : Vec Ideal S4x256x1024 .bf16) (acc : Vec Ideal S1024x1024 .f32) :
    Vec Ideal S1024x1024 .f32 :=
  let w₃ := View.ld w (Rect.unit ![3, 0, 0] ![1, 1024, 512] inb_S4x1024x512_S1x1024x512_3_0_0)
  k0_pay1 (BitVec.ofNat 32 ↑(i 1)) g (iota Kind.tc S1024x128 32 [1] iota_S1024x128_d1_w32)
    (k0_pay15 x w₃) (k0_pay16 x w₃) (k0_pay17 x w₃)
    (k0_pay14 (BitVec.ofNat 32 ↑(i 1)) x g (iota Kind.tc S1024x128 32 [1] iota_S1024x128_d1_w32)
      (k0_pay13 (View.ld w (Rect.unit ![2, 0, 0] ![1, 1024, 512] inb_S4x1024x512_S1x1024x512_2_0_0)))
      (k0_pay12 (BitVec.ofNat 32 ↑(i 1)) x g (iota Kind.tc S1024x128 32 [1] iota_S1024x128_d1_w32)
        (View.ld w (Rect.unit ![1, 0, 0] ![1, 1024, 512] inb_S4x1024x512_S1x1024x512_1_0_0))
        (k0_pay11
          (k0_pay10 i x g
            (View.ld w (Rect.unit ![0, 0, 0] ![1, 1024, 512] inb_S4x1024x512_S1x1024x512_0_0_0)) acc
            (View.ld v (Rect.unit ![0, 0, 0] ![1, 256, 1024] inb_S4x256x1024_S1x256x1024_0_0_0))))
        (View.ld v (Rect.unit ![1, 0, 0] ![1, 256, 1024] inb_S4x256x1024_S1x256x1024_1_0_0)))
      (View.ld v (Rect.unit ![2, 0, 0] ![1, 256, 1024] inb_S4x256x1024_S1x256x1024_2_0_0)))
    (View.ld v (Rect.unit ![3, 0, 0] ![1, 256, 1024] inb_S4x256x1024_S1x256x1024_3_0_0))

/-- A load of expert `u`'s slice of the first weights. -/
theorem ld_w (w : Vec Ideal S4x1024x512 .bf16) (u : Fin 4) (inb : ∀ a, (![u.val, 0, 0] : Fin 3 → ℕ) a + (![1, 1024, 512] : Fin 3 → ℕ) a ≤ S4x1024x512.size a)
    (k : Fin 1024) (c : Fin 512) :
    View.ld w (Rect.unit ![u.val, 0, 0] ![1, 1024, 512] inb) (ix3 0 k c) = w (ix3 u k c) := by
  refine congrArg w (funext fun a => Fin.ext ?_)
  match a with
  | ⟨0, _⟩ => exact Nat.add_zero _
  | ⟨1, _⟩ => show 0 + 1 * k.val = k.val; omega
  | ⟨2, _⟩ => show 0 + 1 * c.val = c.val; omega

/-- A load of expert `u`'s slice of the second weights. -/
theorem ld_v (v : Vec Ideal S4x256x1024 .bf16) (u : Fin 4) (inb : ∀ a, (![u.val, 0, 0] : Fin 3 → ℕ) a + (![1, 256, 1024] : Fin 3 → ℕ) a ≤ S4x256x1024.size a)
    (f : Fin 256) (d : Fin 1024) :
    View.ld v (Rect.unit ![u.val, 0, 0] ![1, 256, 1024] inb) (ix3 0 f d) = v (ix3 u f d) := by
  refine congrArg v (funext fun a => Fin.ext ?_)
  match a with
  | ⟨0, _⟩ => exact Nat.add_zero _
  | ⟨1, _⟩ => show 0 + 1 * f.val = f.val; omega
  | ⟨2, _⟩ => show 0 + 1 * d.val = d.val; omega

/-- The cast of a block to its own shape. -/
theorem pay11_apply (z : FVec Ideal S1024x1024 .f32) (r d : Fin 1024) : k0_pay11 z (ix2 r d) = z (ix2 r d) := by
  pointwise [k0_pay11]

/-- What the first point keeps of its row block is the block itself. -/
theorem pay8_apply (z : Vec Ideal S1024x1024 .f32) (r d : Fin 1024) : k0_pay8 z (ix2 r d) = z (ix2 r d) := by
  pointwise [k0_pay8]

/-- The accumulator starts at zero. -/
theorem pay9_apply (r d : Fin 1024) : k0_pay9 (F := Ideal) (ix2 r d) = 0 := by
  pointwise [k0_pay9]

/-- Element by element: the accumulator plus the four gated experts. -/
theorem step_apply (i : grid0.Coords) (hi : (i 1).val < 16) (x : Vec Ideal S1024x1024 .bf16) (g : Vec Ideal S1024x128 .f32)
    (w : Vec Ideal S4x1024x512 .bf16) (v : Vec Ideal S4x256x1024 .bf16) (acc : Vec Ideal S1024x1024 .f32) (r d : Fin 1024) :
    step i x g w v acc (ix2 r d) = acc (ix2 r d)
      + ∑ u : Fin 4, Moe.gatedExpert (fun k => x (ix2 r k)) (g (ix2 r ⟨4 * (i 1).val + u.val, by omega⟩))
          (fun k c => w (ix3 u k c)) (fun f d => v (ix3 u f d)) d := by
  unfold step
  rw [pay1_apply (i 1).val hi, pay14_apply (i 1).val hi, pay12_apply (i 1).val hi, pay11_apply, pay10_apply i hi, Fin.sum_univ_four]
  simp only [add_assoc]
  have hw := fun (u : Fin 4) inb k c => ld_w w u inb k c
  have hv := fun (u : Fin 4) inb f d => ld_v v u inb f d
  congr 1
  congr 1
  · exact congrArg₂ (fun a b => Moe.gatedExpert _ _ a b d) (funext₂ fun k c => hw 0 _ k c) (funext₂ fun f d => hv 0 _ f d)
  congr 1
  · exact congrArg₂ (fun a b => Moe.gatedExpert _ _ a b d) (funext₂ fun k c => hw 1 _ k c) (funext₂ fun f d => hv 1 _ f d)
  congr 1
  · exact congrArg₂ (fun a b => Moe.gatedExpert _ _ a b d) (funext₂ fun k c => hw 2 _ k c) (funext₂ fun f d => hv 2 _ f d)
  · exact congrArg₂ (fun a b => Moe.gatedExpert _ _ a b d) (funext₂ fun k c => hw 3 _ k c) (funext₂ fun f d => hv 3 _ f d)

variable (m : (ℓ : Loc nD τ sig) → Buf (Elt Ideal) ℓ)

/-- The first point of a row block keeps the block in scratch. -/
theorem row_first (c : Dev nD) (t : Fin cfg0.N) (h0 : t.val % 16 = 0) :
    (outsAt0 m c t.val t.isLt).2.1 = k0_pay8 (iblk m c 0 t) := by
  rw [outsAt0_A m c t h0 (by omega)]
  frame_out

/-- The other points carry it. -/
theorem row_next (c : Dev nD) (t : Fin cfg0.N) (h0 : ¬t.val % 16 = 0) :
    (outsAt0 m c t.val t.isLt).2.1 = (outsAt0 m c (t.val - 1) (Nat.lt_of_le_of_lt (Nat.sub_le _ _) t.isLt)).2.1 := by
  by_cases h1 : t.val % 16 = 15
  · rw [outsAt0_C m c t h0 h1]
    rfl
  · rw [outsAt0_B m c t h0 h1]
    rfl

/-- The first point of a row block starts the accumulator at zero. -/
theorem acc_first (c : Dev nD) (t : Fin cfg0.N) (h0 : t.val % 16 = 0) :
    (outsAt0 m c t.val t.isLt).2.2
      = step (grid0.coords t) (k0_pay8 (iblk m c 0 t)) (iblk m c 1 t) (iblk m c 2 t) (iblk m c 3 t) (k0_pay9 (F := Ideal)) := by
  rw [outsAt0_A m c t h0 (by omega)]
  frame_open
  simp (disch := decide) only [↓ View.readCov_skip, ↓ View.readCov_cons_toLoadRect, ↓ View.readCov_fill]
  frame_out
  rfl

/-- The other points add their four experts to what the point before left. -/
theorem acc_next (c : Dev nD) (t : Fin cfg0.N) (h0 : ¬t.val % 16 = 0) :
    (outsAt0 m c t.val t.isLt).2.2
      = step (grid0.coords t) (outsAt0 m c (t.val - 1) (Nat.lt_of_le_of_lt (Nat.sub_le _ _) t.isLt)).2.1 (iblk m c 1 t) (iblk m c 2 t) (iblk m c 3 t)
          (outsAt0 m c (t.val - 1) (Nat.lt_of_le_of_lt (Nat.sub_le _ _) t.isLt)).2.2 := by
  by_cases h1 : t.val % 16 = 15
  · rw [outsAt0_C m c t h0 h1]
    frame_open
    simp (disch := decide) only [↓ View.readCov_skip, ↓ View.readCov_cons_toLoadRect, ↓ View.readCov_fill]
    frame_out
    simp only [read_unread_whole]
    rfl
  · rw [outsAt0_B m c t h0 h1]
    frame_open
    simp (disch := decide) only [↓ View.readCov_skip, ↓ View.readCov_cons_toLoadRect, ↓ View.readCov_fill]
    frame_out
    simp only [read_unread_whole]
    rfl

/-- The last point of a row block writes the norm of the residual stream, with the accumulator it leaves. -/
theorem out_last (c : Dev nD) (t : Fin cfg0.N) (h1 : t.val % 16 = 15) :
    (outsAt0 m c t.val t.isLt).1
      = k0_pay2 (k0_pay3 (iblk m c 6 t)) (k0_pay4 (iblk m c 7 t))
          (k0_pay5 (outsAt0 m c (t.val - 1) (Nat.lt_of_le_of_lt (Nat.sub_le _ _) t.isLt)).2.1 (iblk m c 4 t) (iblk m c 5 t) (iblk m c 0 t) (outsAt0 m c t.val t.isLt).2.2)
          (k0_pay6 (outsAt0 m c (t.val - 1) (Nat.lt_of_le_of_lt (Nat.sub_le _ _) t.isLt)).2.1 (iblk m c 4 t) (iblk m c 5 t) (iblk m c 0 t) (outsAt0 m c t.val t.isLt).2.2)
          k0_pay7 := by
  rw [acc_next m c t (by omega), outsAt0_C m c t (by omega) h1]
  frame_open
  simp (disch := decide) only [↓ View.readCov_skip, ↓ View.readCov_cons_toLoadRect, ↓ View.readCov_fill]
  frame_out
  simp only [read_unread_whole]
  rfl

end Cert.KernelIdeal.Gen
-- ==== Proof.MoeFold.lean ====
/- The accumulator over the sixteen points of a row block, and the block the last of them writes, as functions of the
   call's arguments. -/
module

public import proofs.«01_k».proof.Proof.MoePoint
public import Idealize.ShloMosaic.Lib.Pipeline.ValueKit.Held

@[expose] public section

set_option maxRecDepth 16384

noncomputable section

open Idealize.ShloMosaic

namespace Cert.KernelIdeal.Gen

/-- The printed index maps over the grid: the row block is `t / 16`, the block of experts `t % 16`. -/
theorem idx (t : Fin cfg0.N) : win0_0.index t = ![t.val / 16, 0] ∧ win0_1.index t = ![t.val / 16, 0]
    ∧ win0_2.index t = ![t.val % 16, 0, 0] ∧ win0_3.index t = ![t.val % 16, 0, 0] ∧ win0_4.index t = ![0, 0]
    ∧ win0_5.index t = ![0, 0] ∧ win0_6.index t = ![0, 0] ∧ win0_7.index t = ![0, 0] ∧ (grid0.coords t 1).val = t.val % 16 :=
  (by decide +kernel : ∀ t : Fin grid0.N, win0_0.index t = ![t.val / 16, 0] ∧ win0_1.index t = ![t.val / 16, 0]
    ∧ win0_2.index t = ![t.val % 16, 0, 0] ∧ win0_3.index t = ![t.val % 16, 0, 0] ∧ win0_4.index t = ![0, 0]
    ∧ win0_5.index t = ![0, 0] ∧ win0_6.index t = ![0, 0] ∧ win0_7.index t = ![0, 0] ∧ (grid0.coords t 1).val = t.val % 16) t

theorem lt_N (t : Fin cfg0.N) : t.val < 2064 := lt_of_lt_of_eq t.isLt N_0

/-- Row `r` of the block of point `t`. -/
def row (t : Fin cfg0.N) (r : Fin 1024) : Fin 132096 := ⟨t.val / 16 * 1024 + r.val, by have := lt_N t; omega⟩

/-- Expert `u` of the block of point `t`. -/
def exp (t : Fin cfg0.N) (u : Fin 4) : Fin 64 := ⟨t.val % 16 * 4 + u.val, by omega⟩

variable (m : (ℓ : Loc nD τ sig) → Buf (Elt Ideal) ℓ)

theorem blk_h (c : Dev nD) (t : Fin cfg0.N) (r k : Fin 1024) :
    iblk m c 0 t (ix2 r k) = m ((c.tc : Thread nD τ).loc main_arg0) (ix2 (row t r) k) := by
  unfold row
  blk_point [iblk, V, idx t]

theorem blk_g (c : Dev nD) (t : Fin cfg0.N) (r : Fin 1024) (l : Fin 128) :
    iblk m c 1 t (ix2 r l) = m ((c.tc : Thread nD τ).loc main_arg1) (ix2 (row t r) l) := by
  unfold row
  blk_point [iblk, V, idx t]

theorem blk_w (c : Dev nD) (t : Fin cfg0.N) (u : Fin 4) (k : Fin 1024) (f : Fin 512) :
    iblk m c 2 t (ix3 u k f) = m ((c.tc : Thread nD τ).loc main_arg2) (ix3 (exp t u) k f) := by
  unfold exp
  blk_point [iblk, V, idx t]

theorem blk_v (c : Dev nD) (t : Fin cfg0.N) (u : Fin 4) (f : Fin 256) (d : Fin 1024) :
    iblk m c 3 t (ix3 u f d) = m ((c.tc : Thread nD τ).loc main_arg3) (ix3 (exp t u) f d) := by
  unfold exp
  blk_point [iblk, V, idx t]

theorem blk_ws (c : Dev nD) (t : Fin cfg0.N) (k : Fin 1024) (f : Fin 512) :
    iblk m c 4 t (ix2 k f) = m ((c.tc : Thread nD τ).loc main_arg4) (ix2 k f) := by
  blk_point [iblk, V, idx t]

theorem blk_vs (c : Dev nD) (t : Fin cfg0.N) (f : Fin 256) (d : Fin 1024) :
    iblk m c 5 t (ix2 f d) = m ((c.tc : Thread nD τ).loc main_arg5) (ix2 f d) := by
  blk_point [iblk, V, idx t]

theorem blk_gain (c : Dev nD) (t : Fin cfg0.N) (k : Fin 1024) :
    iblk m c 6 t (ix2 0 k) = m ((c.tc : Thread nD τ).loc main_arg6) (ix1 k) := by
  blk_point [iblk, V, idx t]

theorem blk_bias (c : Dev nD) (t : Fin cfg0.N) (k : Fin 1024) :
    iblk m c 7 t (ix2 0 k) = m ((c.tc : Thread nD τ).loc main_arg7) (ix1 k) := by
  blk_point [iblk, V, idx t]

end Cert.KernelIdeal.Gen
-- ==== Proof.MoeKernel.lean ====
/- The array of the kernel, element by element: over a row block the accumulator sums the sixty-four gated experts of
   every row, and the block written at its end is the layer norm of the residual stream. -/
module

public import proofs.«01_k».proof.Proof.MoeFold
public import proofs.«01_k».proof.Proof.Gen.KernelIdeal.Value

@[expose] public section

set_option maxRecDepth 16384

noncomputable section

open Idealize.ShloMosaic

namespace Cert.KernelIdeal.Gen

variable (m : (ℓ : Loc nD τ sig) → Buf (Elt Ideal) ℓ)

/-- Expert `e` times its gate on row `R`, of the call's arguments. -/
def gated (c : Dev nD) (R : Fin 132096) (e : Fin 64) (d : Fin 1024) : EReal :=
  Moe.gatedExpert (fun k => m ((c.tc : Thread nD τ).loc main_arg0) (ix2 R k)) (m ((c.tc : Thread nD τ).loc main_arg1) (ix2 R ⟨e.val, by omega⟩))
    (fun k f => m ((c.tc : Thread nD τ).loc main_arg2) (ix3 e k f)) (fun f d => m ((c.tc : Thread nD τ).loc main_arg3) (ix3 e f d)) d

/-- At every point the scratch holds the rows of the point's own block. -/
theorem rows (c : Dev nD) (t : Fin cfg0.N) (r k : Fin 1024) :
    (outsAt0 m c t.val t.isLt).2.1 (ix2 r k) = m ((c.tc : Thread nD τ).loc main_arg0) (ix2 (row t r) k) := by
  have h := Pipeline.eq_of_write_hold (fun n h => (outsAt0 m c n h).2.1) 16 (fun t => k0_pay8 (iblk m c 0 t))
    (fun t h => row_first m c t h) (fun t h => row_next m c t h) t
  rw [show (outsAt0 m c t.val t.isLt).2.1 = _ from h, pay8_apply, blk_h]
  congr 2
  unfold row
  exact Fin.ext (by show 16 * (t.val / 16) / 16 * 1024 + r.val = t.val / 16 * 1024 + r.val; omega)

/-- One point adds its four gated experts to the accumulator. -/
theorem step_blocks (c : Dev nD) (t : Fin cfg0.N) (x : Vec Ideal S1024x1024 .bf16) (acc : Vec Ideal S1024x1024 .f32) (r d : Fin 1024)
    (hx : ∀ k, x (ix2 r k) = m ((c.tc : Thread nD τ).loc main_arg0) (ix2 (row t r) k)) :
    step (grid0.coords t) x (iblk m c 1 t) (iblk m c 2 t) (iblk m c 3 t) acc (ix2 r d)
      = acc (ix2 r d) + ∑ u : Fin 4, gated m c (row t r) (exp t u) d := by
  have hi : (grid0.coords t 1).val = t.val % 16 := (idx t).2.2.2.2.2.2.2.2
  rw [step_apply _ (by omega)]
  congr 1
  refine Finset.sum_congr rfl fun u _ => ?_
  unfold gated
  simp only [hx, blk_w, blk_v, blk_g]
  congr 3
  exact Fin.ext (by show 4 * (grid0.coords t 1).val + u.val = t.val % 16 * 4 + u.val; omega)

/-- At the last point of a row block the accumulator is the sum over all experts. -/
theorem acc_last (c : Dev nD) (t : Fin cfg0.N) (ht : t.val % 16 = 15) (r d : Fin 1024) :
    (outsAt0 m c t.val t.isLt).2.2 (ix2 r d) = ∑ e : Fin 64, gated m c (row t r) e d := by
  have h := Pipeline.eq_sum_fin_of_reset_step_apply_of_flush
    (fun n h (p : Fin 1024 × Fin 1024) => (outsAt0 m c n h).2.2 (ix2 p.1 p.2)) 16 (fun _ => (0 : EReal))
    (fun t p => ∑ u : Fin 4, gated m c (row t p.1) (exp t u) p.2)
    (fun t h p => by
      show (outsAt0 m c t.val t.isLt).2.2 (ix2 p.1 p.2) = _
      rw [acc_first m c t h, step_blocks m c t _ _ p.1 p.2 (fun k => by rw [pay8_apply, blk_h]), pay9_apply])
    (fun t h p => by
      show (outsAt0 m c t.val t.isLt).2.2 (ix2 p.1 p.2) = _
      rw [acc_next m c t h, step_blocks m c t _ _ p.1 p.2 (fun k => by rw [← row_next m c t h, rows])])
    t ht (r, d)
  rw [show (outsAt0 m c t.val t.isLt).2.2 (ix2 r d) = _ from h, zero_add]
  refine Fin.sum_mul_add_congr fun s u hl => ?_
  have hr : row (⟨16 * (t.val / 16) + s.val, Pipeline.run_point_lt_of_flush t ht s⟩ : Fin cfg0.N) r = row t r := by
    unfold row
    exact Fin.ext (by show (16 * (t.val / 16) + s.val) / 16 * 1024 + r.val = t.val / 16 * 1024 + r.val; omega)
  have he : exp (⟨16 * (t.val / 16) + s.val, Pipeline.run_point_lt_of_flush t ht s⟩ : Fin cfg0.N) u = ⟨s.val * 4 + u.val, hl⟩ := by
    unfold exp
    exact Fin.ext (by show (16 * (t.val / 16) + s.val) % 16 * 4 + u.val = s.val * 4 + u.val; omega)
  rw [← he]
  exact congrArg (fun R => gated m c R _ d) hr

/-- The kernel's array: the layer norm of the residual stream over the gated experts. -/
theorem result_apply (c : Dev nD) (R : Fin 132096) (d : Fin 1024) :
    Value.G8 m c (ix2 R d)
      = Moe.normalized (Ideal.ofBits .f32 0x44800000#32) (Ideal.ofBits .f32 0x3727C5AC#32)
          (fun j => Moe.residual (Ideal.ofBits .f32 0x3FD744FD#32) (fun k => m ((c.tc : Thread nD τ).loc main_arg0) (ix2 R k))
            (∑ e : Fin 64, gated m c R e j)
            (Moe.expert (fun k => m ((c.tc : Thread nD τ).loc main_arg0) (ix2 R k)) (fun k f => m ((c.tc : Thread nD τ).loc main_arg4) (ix2 k f))
              (fun f d => m ((c.tc : Thread nD τ).loc main_arg5) (ix2 f d)) j) j)
          (fun k => m ((c.tc : Thread nD τ).loc main_arg6) (ix1 k)) (fun k => m ((c.tc : Thread nD τ).loc main_arg7) (ix1 k)) d := by
  have hN : cfg0.N = 2064 := N_0
  have hp : Value.pt8Of (ix2 R d) = 16 * (R.val / 1024) + 15 := by
    show 16 * (1 * (R.val / 1024 - 0) + 1 * (d.val / 1024 - 0)) + 15 = _
    omega
  have hlt : Value.pt8Of (ix2 R d) < cfg0.N := by rw [hp, hN]; omega
  have hloc : Value.loc8Of (ix2 R d) = ix2 ⟨R.val % 1024, by omega⟩ d := by
    funext a
    match a with
    | ⟨0, _⟩ => rfl
    | ⟨1, _⟩ => exact Fin.ext (Nat.mod_eq_of_lt d.isLt)
  have hG : Value.G8 m c (ix2 R d) = (outsAt0 m c (Value.pt8Of (ix2 R d)) hlt).1 (ix2 ⟨R.val % 1024, by omega⟩ d) := by
    rw [Value.outsAt0_sweep, ← hloc]
    exact dif_pos hlt
  let t : Fin cfg0.N := ⟨Value.pt8Of (ix2 R d), hlt⟩
  have ht : t.val % 16 = 15 := by show Value.pt8Of (ix2 R d) % 16 = 15; omega
  have hrow : row t ⟨R.val % 1024, by omega⟩ = R := by
    unfold row
    exact Fin.ext (by show Value.pt8Of (ix2 R d) / 16 * 1024 + R.val % 1024 = R.val; omega)
  rw [hG, show (outsAt0 m c (Value.pt8Of (ix2 R d)) hlt).1 = _ from out_last m c t ht, ← row_next m c t (by omega), pay2_apply]
  simp only [rows, acc_last m c t ht, blk_h, blk_ws, blk_vs, blk_gain, blk_bias, hrow]

end Cert.KernelIdeal.Gen
-- ==== Proof.MoeReference.lean ====
/- The reference's array, element by element. -/
module

public import proofs.«01_k».proof.Proof.MoeSpec
public import proofs.«01_k».proof.Proof.Gen.ReferenceIdeal.Run

@[expose] public section

set_option maxRecDepth 16384

noncomputable section

open Idealize.ShloMosaic
open Cert.ReferenceIdeal.Gen

namespace Cert.ReferenceIdeal.Value

/-- The residual stream of the reference before its norm. -/
def stream (h : FVec Ideal S132096x1024 .f32) (g : FVec Ideal S132096x128 .f32) (w : FVec Ideal S64x1024x512 .f32)
    (v : FVec Ideal S64x256x1024 .f32) (ws : FVec Ideal S1024x512 .f32) (vs : FVec Ideal S256x1024 .f32) : FVec Ideal S132096x1024 .f32 :=
  addf (mulf (broadcastInDim S132096x1024 ![] bcast_S_S132096x1024 (constant S_ .f32 0x3FD744FD#32)) h) (addf (Host.reduceAdd (mulf (broadcastInDim S64x132096x1024 ![0, 1, 2] bcast_S64x132096x1_S64x132096x1024_0_1_2 (broadcastInDim S64x132096x1 ![0, 1] bcast_S64x132096_S64x132096x1_0_1 (transpose S64x132096 [1, 0] (extractStridedSlice S132096x64 ![0, 0] g slices_S132096x128_S132096x64_0_0) transposes_S132096x64_S64x132096_1_0))) (Host.dotGeneral dot_S64x132096x256_S64x256x1024_S64x132096x1024_2_1_1_2_0_0 none (mulf (mulf (extractStridedSlice S64x132096x256 ![0, 0, 0] (transpose S64x132096x512 [0, 2, 1] (Host.dotGeneral dot_S64x1024x512_S132096x1024_S64x512x132096_1_1_02_0_n_n none w h) transposes_S64x512x132096_S64x132096x512_0_2_1) slices_S64x132096x512_S64x132096x256_0_0_0) (Host.divf (broadcastInDim S64x132096x256 ![] bcast_S_S64x132096x256 (constant S_ .f32 0x3F800000#32)) (addf (broadcastInDim S64x132096x256 ![] bcast_S_S64x132096x256 (constant S_ .f32 0x3F800000#32)) (Host.exp (Host.negf (extractStridedSlice S64x132096x256 ![0, 0, 0] (transpose S64x132096x512 [0, 2, 1] (Host.dotGeneral dot_S64x1024x512_S132096x1024_S64x512x132096_1_1_02_0_n_n none w h) transposes_S64x512x132096_S64x132096x512_0_2_1) slices_S64x132096x512_S64x132096x256_0_0_0)))))) (extractStridedSlice S64x132096x256 ![0, 0, 256] (transpose S64x132096x512 [0, 2, 1] (Host.dotGeneral dot_S64x1024x512_S132096x1024_S64x512x132096_1_1_02_0_n_n none w h) transposes_S64x512x132096_S64x132096x512_0_2_1) slices_S64x132096x512_S64x132096x256_0_0_256)) v)) (constant S_ .f32 0x00000000#32) reducesTo_S64x132096x1024_S132096x1024_d0 h_S_) (Host.dotGeneral dot_S132096x256_S256x1024_S132096x1024_1_0_0_1_n_n none (mulf (mulf (extractStridedSlice S132096x256 ![0, 0] (Host.dotGeneral dot_S132096x1024_S1024x512_S132096x512_1_0_0_1_n_n none h ws) slices_S132096x512_S132096x256_0_0) (Host.divf (broadcastInDim S132096x256 ![] bcast_S_S132096x256 (constant S_ .f32 0x3F800000#32)) (addf (broadcastInDim S132096x256 ![] bcast_S_S132096x256 (constant S_ .f32 0x3F800000#32)) (Host.exp (Host.negf (extractStridedSlice S132096x256 ![0, 0] (Host.dotGeneral dot_S132096x1024_S1024x512_S132096x512_1_0_0_1_n_n none h ws) slices_S132096x512_S132096x256_0_0)))))) (extractStridedSlice S132096x256 ![0, 256] (Host.dotGeneral dot_S132096x1024_S1024x512_S132096x512_1_0_0_1_n_n none h ws) slices_S132096x512_S132096x256_0_256)) vs))

/-- The layer norm of the reference. -/
def norm (z : FVec Ideal S132096x1024 .f32) (gain bias : FVec Ideal S1024 .f32) : FVec Ideal S132096x1024 .f32 :=
  addf (mulf (mulf (subf z (broadcastInDim S132096x1024 ![0, 1] bcast_S132096x1_S132096x1024_0_1 (Host.divf (broadcastInDim S132096x1 ![0] bcast_S132096_S132096x1_0 (Host.reduceAdd z (constant S_ .f32 0x00000000#32) reducesTo_S132096x1024_S132096_d1 h_S_)) (broadcastInDim S132096x1 ![] bcast_S_S132096x1 (constant S_ .f32 0x44800000#32))))) (broadcastInDim S132096x1024 ![0, 1] bcast_S132096x1_S132096x1024_0_1 (Host.rsqrt (addf (Host.divf (broadcastInDim S132096x1 ![0] bcast_S132096_S132096x1_0 (Host.reduceAdd (mulf (subf z (broadcastInDim S132096x1024 ![0, 1] bcast_S132096x1_S132096x1024_0_1 (Host.divf (broadcastInDim S132096x1 ![0] bcast_S132096_S132096x1_0 (Host.reduceAdd z (constant S_ .f32 0x00000000#32) reducesTo_S132096x1024_S132096_d1 h_S_)) (broadcastInDim S132096x1 ![] bcast_S_S132096x1 (constant S_ .f32 0x44800000#32))))) (subf z (broadcastInDim S132096x1024 ![0, 1] bcast_S132096x1_S132096x1024_0_1 (Host.divf (broadcastInDim S132096x1 ![0] bcast_S132096_S132096x1_0 (Host.reduceAdd z (constant S_ .f32 0x00000000#32) reducesTo_S132096x1024_S132096_d1 h_S_)) (broadcastInDim S132096x1 ![] bcast_S_S132096x1 (constant S_ .f32 0x44800000#32)))))) (constant S_ .f32 0x00000000#32) reducesTo_S132096x1024_S132096_d1 h_S_)) (broadcastInDim S132096x1 ![] bcast_S_S132096x1 (constant S_ .f32 0x44800000#32))) (broadcastInDim S132096x1 ![] bcast_S_S132096x1 (constant S_ .f32 0x3727C5AC#32)))))) (broadcastInDim S132096x1024 ![0, 1] bcast_S1x1024_S132096x1024_0_1 (broadcastInDim S1x1024 ![1] bcast_S1024_S1x1024_1 gain))) (broadcastInDim S132096x1024 ![0, 1] bcast_S1x1024_S132096x1024_0_1 (broadcastInDim S1x1024 ![1] bcast_S1024_S1x1024_1 bias))

/-- Element by element: the layer norm of a row. -/
theorem norm_apply (z : FVec Ideal S132096x1024 .f32) (gain bias : FVec Ideal S1024 .f32) (r : Fin 132096) (d : Fin 1024) :
    norm z gain bias (ix2 r d) = Moe.normalized (Ideal.ofBits .f32 0x44800000#32) (Ideal.ofBits .f32 0x3727C5AC#32)
      (fun j => z (ix2 r j)) (fun k => gain (ix1 k)) (fun k => bias (ix1 k)) d := by
  pointwise [norm]
  rfl

/-- Element by element: the residual stream over the experts, each times its gate, and the shared expert. -/
theorem stream_apply (h : FVec Ideal S132096x1024 .f32) (g : FVec Ideal S132096x128 .f32) (w : FVec Ideal S64x1024x512 .f32)
    (v : FVec Ideal S64x256x1024 .f32) (ws : FVec Ideal S1024x512 .f32) (vs : FVec Ideal S256x1024 .f32) (r : Fin 132096) (d : Fin 1024) :
    stream h g w v ws vs (ix2 r d) = Moe.residual (Ideal.ofBits .f32 0x3FD744FD#32) (fun k => h (ix2 r k))
      (∑ e : Fin 64, g (ix2 r ⟨e.val, by omega⟩) * Moe.expert (fun k => h (ix2 r k)) (fun k c => w (ix3 e k c)) (fun f d => v (ix3 e f d)) d)
      (Moe.expert (fun k => h (ix2 r k)) (fun k c => ws (ix2 k c)) (fun f d => vs (ix2 f d)) d) d := by
  pointwise [stream]
  simp only [mul_comm (w _) (h _), Moe.mul_logistic]
  unfold Moe.residual
  rw [add_assoc]
  rfl

/-- The reference's array is the layer norm of its residual stream. -/
theorem result_apply (m : (ℓ : Loc nD τ sig) → Buf (Elt Ideal) ℓ) (c : Dev nD) (r : Fin 132096) (d : Fin 1024) :
    res_main_v44 m c (ix2 r d)
      = Moe.normalized (Ideal.ofBits .f32 0x44800000#32) (Ideal.ofBits .f32 0x3727C5AC#32)
          (fun j => stream (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5)) (ix2 r j))
          (fun k => m ((c.tc : Thread nD τ).loc main_arg6) (ix1 k)) (fun k => m ((c.tc : Thread nD τ).loc main_arg7) (ix1 k)) d := by
  have h : res_main_v44 m c = norm (stream (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5)))
            (m ((c.tc : Thread nD τ).loc main_arg6)) (m ((c.tc : Thread nD τ).loc main_arg7)) := by
    unfold res_main_v44 norm stream
    rfl
  rw [h, norm_apply]

end Cert.ReferenceIdeal.Value
-- ==== Proof.MoeAlgebraic.lean ====
/- The expert layer: the kernel's array is the reference's where the gates are finite and not negative. -/
module

public import proofs.«01_k».proof.Defs
public import proofs.«01_k».proof.Proof.MoeKernel
public import proofs.«01_k».proof.Proof.MoeReference
public import proofs.«01_k».proof.Proof.Gen.Pre_gates_ok

@[expose] public section

set_option maxRecDepth 16384

noncomputable section

open Idealize.ShloMosaic Idealize.SL.Sem

namespace Cert

/-- A comparison whose bit is one holds. -/
theorem of_ofBool {p : Prop} [Decidable p] (h : BitVec.ofBool (decide p) = 1#1) : p := by
  by_contra hp
  simp [hp] at h

/-- The precondition read at one gate. -/
theorem gate_ok (m : (ℓ : Loc KernelIdeal.nD KernelIdeal.τ KernelIdeal.sig) → Buf (Elt Ideal) ℓ)
    (hpre : Pre_KernelIdeal_gates_ok (hPre_gates_ok := Pre_gates_ok.Gen.facts) m) (c : Dev KernelIdeal.nD) (R : Fin 132096) (e : Fin 64) :
    (0 : EReal) ≤ (m ((c.tc : Thread KernelIdeal.nD KernelIdeal.τ).loc KernelIdeal.main_arg1) (ix2 R ⟨e.val, by omega⟩) : EReal)
      ∧ m ((c.tc : Thread KernelIdeal.nD KernelIdeal.τ).loc KernelIdeal.main_arg1) (ix2 R ⟨e.val, by omega⟩) ≠ (⊤ : EReal) := by
  obtain ⟨h1, h2⟩ := hpre c
  have h1 := congrFun h1 (ix2 R e)
  have h2 := congrFun h2 (ix2 R e)
  revert h1 h2
  pointwise [Pre_gates_ok.fn]
  exact fun h1 h2 => ⟨of_ofBool h1, ne_top_of_lt (of_ofBool h2)⟩

theorem moe_algebraic : algebraic_KernelIdeal_ReferenceIdeal_pre_gates_ok (hKernelIdeal := KernelIdeal.Gen.facts)
    (hReferenceIdeal := ReferenceIdeal.Gen.facts) (hPre_gates_ok := Pre_gates_ok.Gen.facts) := by
  intro m ρ m' ρ' hpre hagree
  refine ⟨_, KernelIdeal.Value.run (F := Ideal) m ρ, ?_⟩
  refine (θ_run ReferenceIdeal.defs _ _).mono (fun _ h c => ⟨?_, (h c).2⟩) (ReferenceIdeal.Value.run (F := Ideal) m' ρ')
  rw [(h c).1]
  obtain ⟨a0, a1, a2, a3, a4, a5, a6, a7⟩ := hagree c
  funext j
  obtain ⟨R, d, rfl⟩ : ∃ (R : Fin 132096) (d : Fin 1024), j = ix2 R d := ⟨j 0, j 1, by funext a; match a with | ⟨0, _⟩ => rfl | ⟨1, _⟩ => rfl⟩
  refine (ReferenceIdeal.Value.result_apply m' c R d).trans ((?_ : _ = _).trans (KernelIdeal.Gen.result_apply m c R d).symm)
  simp only [ReferenceIdeal.Value.stream_apply, a0, a1, a2, a3, a4, a5, a6, a7]
  have hg := fun e j => Moe.mul_expert (fun k => m ((c.tc : Thread KernelIdeal.nD KernelIdeal.τ).loc KernelIdeal.main_arg0) (ix2 R k)) _
    (gate_ok m hpre c R e).1 (gate_ok m hpre c R e).2
    (fun k f => m ((c.tc : Thread KernelIdeal.nD KernelIdeal.τ).loc KernelIdeal.main_arg2) (ix3 e k f))
    (fun f d => m ((c.tc : Thread KernelIdeal.nD KernelIdeal.τ).loc KernelIdeal.main_arg3) (ix3 e f d)) j
  unfold KernelIdeal.Gen.gated
  simp only [hg]

end Cert
-- ==== Proof.AttSpec.lean ====
/- Attention over a set of keys kept as a running triple: the largest score, the sum of the weights and the weighted
   sum of the values, both weights taken relative to the largest score so far. -/
module

public import Idealize.ShloMosaic.Lib.Pointwise

@[expose] public section

noncomputable section

open Idealize.ShloMosaic

namespace Att

/-- The largest of the scores, as a reduction from minus infinity. -/
def top {n : ℕ} (s : Fin n → EReal) : EReal := Finset.fold max (Ideal.ofBits FTy.f32 0xFF800000#32) s Finset.univ

/-- The triple of a first set of keys with scores `s` and values `v`. -/
def first {n : ℕ} (s v : Fin n → EReal) : EReal × EReal × EReal :=
  (top s, ∑ x, Ideal.exp (s x - top s), ∑ x, Ideal.exp (s x - top s) * v x)

/-- The triple after a further set of keys: what was there is rescaled to the new largest score. -/
def more {n : ℕ} (s v : Fin n → EReal) (p : EReal × EReal × EReal) : EReal × EReal × EReal :=
  (max p.1 (top s),
    Ideal.exp (p.1 - max p.1 (top s)) * p.2.1 + ∑ x, Ideal.exp (s x - max p.1 (top s)),
    Ideal.exp (p.1 - max p.1 (top s)) * p.2.2 + ∑ x, Ideal.exp (s x - max p.1 (top s)) * v x)

/-- Over keys with real scores the triple is, for some real `μ`: `μ`, the sum `W` of the exponentials of the scores
    and the sum `X` of the values they weigh, both times the exponential of `-μ`. -/
def Holds (W : ℝ) (X : EReal) (p : EReal × EReal × EReal) : Prop :=
  ∃ μ : ℝ, p = ((μ : EReal), ((Real.exp (-μ) * W : ℝ) : EReal), ((Real.exp (-μ) : ℝ) : EReal) * X)

/-- The exponential of a difference of reals. -/
theorem exp_sub (a b : ℝ) : Ideal.exp ((a : EReal) - (b : EReal)) = ((Real.exp (-b) * Real.exp a : ℝ) : EReal) := by
  rw [← EReal.coe_sub, ← Real.exp_add]
  show ((Real.exp (a - b) : ℝ) : EReal) = _
  congr 2
  ring

/-- The largest of finitely many real scores is real. -/
theorem top_real {n : ℕ} (hn : 0 < n) (s : Fin n → ℝ) : ∃ μ : ℝ, top (fun x => (s x : EReal)) = μ := by
  have hb : Ideal.ofBits FTy.f32 0xFF800000#32 = (⊥ : EReal) := by
    simp [Ideal.ofBits, Ideal.ieee]
  have hlt : top (fun x => (s x : EReal)) < ⊤ := by
    unfold top
    rw [Finset.fold_max_lt, hb]
    exact ⟨bot_lt_top, fun x _ => EReal.coe_lt_top _⟩
  have hgt : ⊥ < top (fun x => (s x : EReal)) := by
    unfold top
    rw [Finset.lt_fold_max]
    exact Or.inr ⟨⟨0, hn⟩, Finset.mem_univ _, EReal.bot_lt_coe _⟩
  exact ⟨_, (EReal.coe_toReal hlt.ne hgt.ne').symm⟩

/-- A finite sum of reals is real. -/
theorem sum_coe {n : ℕ} (f : Fin n → ℝ) : ∑ x, (f x : EReal) = ((∑ x, f x : ℝ) : EReal) := by
  have := map_sum (⟨⟨fun x : ℝ => (x : EReal), EReal.coe_zero⟩, EReal.coe_add⟩ : ℝ →+ EReal) f Finset.univ
  exact this.symm

/-- A real factor that is not negative goes through a finite sum. -/
theorem mul_sum {n : ℕ} (a : ℝ) (ha : 0 ≤ a) (f : Fin n → EReal) : (a : EReal) * ∑ x, f x = ∑ x, (a : EReal) * f x := by
  induction n with
  | zero => simp
  | succ n ih =>
    rw [Fin.sum_univ_succ, Fin.sum_univ_succ, EReal.left_distrib_of_nonneg_of_ne_top (EReal.coe_nonneg.mpr ha) (EReal.coe_ne_top a), ih]

/-- The weights of a set of keys with real scores, relative to `μ`. -/
theorem sum_exp {n : ℕ} (s : Fin n → ℝ) (μ : ℝ) :
    ∑ x, Ideal.exp ((s x : EReal) - (μ : EReal)) = ((Real.exp (-μ) * ∑ x, Real.exp (s x) : ℝ) : EReal) := by
  simp only [exp_sub]
  rw [sum_coe, Finset.mul_sum]

/-- The values they weigh. -/
theorem sum_exp_mul {n : ℕ} (s : Fin n → ℝ) (v : Fin n → EReal) (μ : ℝ) :
    ∑ x, Ideal.exp ((s x : EReal) - (μ : EReal)) * v x = ((Real.exp (-μ) : ℝ) : EReal) * ∑ x, ((Real.exp (s x) : ℝ) : EReal) * v x := by
  simp only [exp_sub]
  rw [mul_sum _ (Real.exp_pos _).le]
  refine Finset.sum_congr rfl fun x _ => ?_
  rw [EReal.coe_mul, mul_assoc]

/-- The first triple. -/
theorem first_holds {n : ℕ} (hn : 0 < n) (s : Fin n → ℝ) (v : Fin n → EReal) :
    Holds (∑ x, Real.exp (s x)) (∑ x, ((Real.exp (s x) : ℝ) : EReal) * v x) (first (fun x => (s x : EReal)) v) := by
  obtain ⟨μ, hμ⟩ := top_real hn s
  refine ⟨μ, ?_⟩
  unfold first
  rw [hμ, sum_exp, sum_exp_mul]

/-- One more set of keys adds its weights and its weighted values. -/
theorem more_holds {n : ℕ} (hn : 0 < n) (s : Fin n → ℝ) (v : Fin n → EReal) {W : ℝ} {X : EReal} {p : EReal × EReal × EReal}
    (h : Holds W X p) :
    Holds (W + ∑ x, Real.exp (s x)) (X + ∑ x, ((Real.exp (s x) : ℝ) : EReal) * v x) (more (fun x => (s x : EReal)) v p) := by
  obtain ⟨μ, rfl⟩ := h
  obtain ⟨ν, hν⟩ := top_real hn s
  have hmax : max (μ : EReal) (ν : EReal) = ((max μ ν : ℝ) : EReal) := (EReal.coe_strictMono.monotone.map_max).symm
  have hexp : Real.exp (-(max μ ν)) * Real.exp μ * Real.exp (-μ) = Real.exp (-(max μ ν)) := by
    rw [mul_assoc, ← Real.exp_add, add_neg_cancel, Real.exp_zero, mul_one]
  refine ⟨max μ ν, ?_⟩
  unfold more
  simp only [hν, hmax, sum_exp, sum_exp_mul]
  simp only [exp_sub]
  refine congrArg₂ Prod.mk rfl (congrArg₂ Prod.mk ?_ ?_)
  · rw [← EReal.coe_mul, ← EReal.coe_add, ← mul_assoc, hexp, mul_add]
  · rw [← mul_assoc, ← EReal.coe_mul, hexp, ← EReal.left_distrib_of_nonneg_of_ne_top (EReal.coe_nonneg.mpr (Real.exp_pos _).le) (EReal.coe_ne_top _)]

/-- The weighted sum over the sum of the weights: the common factor cancels. -/
theorem div_holds {W : ℝ} (hW : 0 < W) {X : EReal} {p : EReal × EReal × EReal} (h : Holds W X p) :
    Ideal.div p.2.2 p.2.1 = ((W⁻¹ : ℝ) : EReal) * X := by
  obtain ⟨μ, rfl⟩ := h
  have hp := Real.exp_pos (-μ)
  have h0 : ((Real.exp (-μ) * W : ℝ) : EReal) ≠ 0 := by
    rw [← EReal.coe_zero]
    exact fun h => (mul_pos hp hW).ne' (EReal.coe_injective h)
  show Ideal.div (((Real.exp (-μ) : ℝ) : EReal) * X) ((Real.exp (-μ) * W : ℝ) : EReal) = _
  unfold Ideal.div
  rw [if_neg h0, ← EReal.coe_inv, mul_comm, ← mul_assoc, ← EReal.coe_mul]
  congr 2
  field_simp

/-- The reference's way: every weight is divided by the sum of the weights, whichever real `μ` they are relative to. -/
theorem softmax_eq {n : ℕ} (hn : 0 < n) (s : Fin n → ℝ) (v : Fin n → EReal) (μ : ℝ) :
    ∑ x, v x * Ideal.div (Ideal.exp ((s x : EReal) - (μ : EReal))) (∑ y, Ideal.exp ((s y : EReal) - (μ : EReal)))
      = (((∑ x, Real.exp (s x))⁻¹ : ℝ) : EReal) * ∑ x, ((Real.exp (s x) : ℝ) : EReal) * v x := by
  have hp := Real.exp_pos (-μ)
  have hW : 0 < ∑ x, Real.exp (s x) := Finset.sum_pos (fun x _ => Real.exp_pos _) ⟨⟨0, hn⟩, Finset.mem_univ _⟩
  have h0 : ((Real.exp (-μ) * ∑ x, Real.exp (s x) : ℝ) : EReal) ≠ 0 := by
    rw [← EReal.coe_zero]
    exact fun h => (mul_pos hp hW).ne' (EReal.coe_injective h)
  rw [sum_exp, mul_sum _ (inv_nonneg.mpr hW.le)]
  refine Finset.sum_congr rfl fun x _ => ?_
  rw [exp_sub]
  unfold Ideal.div
  rw [if_neg h0, ← EReal.coe_inv, mul_comm, ← mul_assoc, ← EReal.coe_mul, ← EReal.coe_mul]
  congr 2
  field_simp

/-- A sum over 2064 keys: 16 of them, then four chunks of 512. -/
theorem sum_keys {α : Type} [AddCommMonoid α] (f : Fin 2064 → α) :
    ∑ y, f y = (((∑ x : Fin 16, f ⟨x.val, by omega⟩ + ∑ x : Fin 512, f ⟨16 + (0 + x.val), by omega⟩) + ∑ x : Fin 512, f ⟨16 + (512 + x.val), by omega⟩)
      + ∑ x : Fin 512, f ⟨16 + (1024 + x.val), by omega⟩) + ∑ x : Fin 512, f ⟨16 + (1536 + x.val), by omega⟩ := by
  rw [show ∑ y, f y = ∑ y : Fin ((((16 + 512) + 512) + 512) + 512), f y from rfl, Fin.sum_univ_add, Fin.sum_univ_add, Fin.sum_univ_add, Fin.sum_univ_add]
  refine congrArg₂ (· + ·) (congrArg₂ (· + ·) (congrArg₂ (· + ·) (congrArg₂ (· + ·) rfl ?_) ?_) ?_) ?_ <;>
    refine Finset.sum_congr rfl fun x _ => congrArg f (Fin.ext ?_) <;> simp <;> omega

/-- The whole sweep: 16 keys, then four chunks of 512, with real scores `s` and values `w`. -/
theorem sweep_holds (s : Fin 2064 → ℝ) (w : Fin 2064 → EReal) :
    Holds (∑ y, Real.exp (s y)) (∑ y, ((Real.exp (s y) : ℝ) : EReal) * w y)
      (more (fun x : Fin 512 => (s ⟨16 + (1536 + x.val), by omega⟩ : EReal)) (fun x => w ⟨16 + (1536 + x.val), by omega⟩)
        (more (fun x : Fin 512 => (s ⟨16 + (1024 + x.val), by omega⟩ : EReal)) (fun x => w ⟨16 + (1024 + x.val), by omega⟩)
          (more (fun x : Fin 512 => (s ⟨16 + (512 + x.val), by omega⟩ : EReal)) (fun x => w ⟨16 + (512 + x.val), by omega⟩)
            (more (fun x : Fin 512 => (s ⟨16 + (0 + x.val), by omega⟩ : EReal)) (fun x => w ⟨16 + (0 + x.val), by omega⟩)
              (first (fun x : Fin 16 => (s ⟨x.val, by omega⟩ : EReal)) (fun x => w ⟨x.val, by omega⟩)))))) := by
  rw [sum_keys, sum_keys]
  have hp : 0 < 512 := by omega
  exact more_holds hp _ _ (more_holds hp _ _ (more_holds hp _ _ (more_holds hp _ _ (first_holds (by omega) _ _))))

/-- Softmax attention of a query row over keys with real scores `s` and values `w`. -/
def attended {n : ℕ} (s : Fin n → ℝ) (w : Fin n → EReal) : EReal :=
  (((∑ y, Real.exp (s y))⁻¹ : ℝ) : EReal) * ∑ y, ((Real.exp (s y) : ℝ) : EReal) * w y

theorem sum_exp_pos {n : ℕ} [NeZero n] (s : Fin n → ℝ) : 0 < ∑ y, Real.exp (s y) :=
  Finset.sum_pos (fun _ _ => Real.exp_pos _) ⟨0, Finset.mem_univ _⟩

/-- The row of the arrays at which a sequence's key `y` lies: the registers first, then the tokens. -/
def keyRow (b : Fin 32) (y : Fin 2064) : Fin 132096 :=
  if h : y.val < 16 then ⟨131328 + (b.val * 16 + y.val), by omega⟩ else ⟨65536 + (b.val * 2048 + (y.val - 16)), by omega⟩

/-- The score of a query row and a key of one head. -/
def dot (q k : Fin 64 → EReal) : EReal := ∑ i, q i * k i

/-- A finite sum of products of finite numbers is real. -/
theorem score_real (q k : Fin 64 → EReal) (hq : ∀ e, q e ≠ ⊤ ∧ q e ≠ ⊥) (hk : ∀ e, k e ≠ ⊤ ∧ k e ≠ ⊥) :
    dot q k = ((∑ e, (q e).toReal * (k e).toReal : ℝ) : EReal) := by
  unfold dot
  rw [← sum_coe]
  refine Finset.sum_congr rfl fun e _ => ?_
  rw [EReal.coe_mul, EReal.coe_toReal (hq e).1 (hq e).2, EReal.coe_toReal (hk e).1 (hk e).2]

end Att
-- ==== Proof.AttPayload.lean ====
/- The values the attention kernel computes, read at one query row and one lane. -/
module

public import proofs.«01_k».proof.Proof.AttSpec
public import proofs.«01_k».proof.Proof.Gen.KernelGlobalIdeal.Skeleton

@[expose] public section

set_option maxRecDepth 16384

noncomputable section

open Idealize.ShloMosaic

namespace Cert.KernelGlobalIdeal.Gen

/-- The running triple of all query rows of one key head: largest scores, sums of weights, weighted values. -/
abbrev Triple := FVec Ideal S512x1 .f32 × FVec Ideal S512x1 .f32 × FVec Ideal S512x128 .f32

/-- The triple of one row and one lane. -/
def Triple.at (p : Triple) (r : Fin 512) (d : Fin 128) : EReal × EReal × EReal := (p.1 (ix2 r 0), p.2.1 (ix2 r 0), p.2.2 (ix2 r d))

/-- The score of query row `r` against key `x`. -/
def score {n : ℕ} (q : FVec Ideal S512x128 .bf16) (k : FVec Ideal (⟨2, ![n, 128]⟩ : Shape) .bf16) (r : Fin 512) (x : Fin n) : EReal :=
  ∑ l : Fin 128, q (ix2 r l) * k (ix2 x l)

/-- The query rows of the second key head. -/
def queries1 (q : FVec Ideal S128x512 .bf16) : FVec Ideal S512x128 .bf16 :=
  k0_pay12 (k0_pay3 q) k0_pay10 (k0_pay11 q) (FloatOps.ofBits FTy.f32 0#32)

/-- The triples after the meta keys, per key head. -/
def start0 (q : FVec Ideal S128x512 .bf16) (km vm : FVec Ideal S16x128 .bf16) : Triple := (k0_pay6 q km, k0_pay8 q km, k0_pay9 q km vm)
def start1 (q : FVec Ideal S128x512 .bf16) (km vm : FVec Ideal S16x128 .bf16) : Triple :=
  (k0_pay14 (k0_pay3 q) km k0_pay10 (k0_pay11 q) (FloatOps.ofBits FTy.f32 0#32),
    k0_pay16 (k0_pay3 q) km k0_pay10 (k0_pay11 q) (FloatOps.ofBits FTy.f32 0#32),
    k0_pay17 (k0_pay3 q) km vm k0_pay10 (k0_pay11 q) (FloatOps.ofBits FTy.f32 0#32))

/-- The triple after a chunk of 512 keys. -/
def next (q k v : FVec Ideal S512x128 .bf16) (p : Triple) : Triple := (k0_pay19 q p.1 k, k0_pay22 q p.1 p.2.1 k, k0_pay23 q p.1 p.2.2 k v)

/-- Scores, largest score, weights and weighted values of the meta keys: first key head. -/
theorem pay5_apply (q : FVec Ideal S128x512 .bf16) (km : FVec Ideal S16x128 .bf16) (r : Fin 512) (x : Fin 16) :
    k0_pay5 (F := Ideal) q km (ix2 r x) = score (k0_pay4 q) km r x := by
  unfold score
  pointwise [k0_pay5]

theorem pay6_apply (q : FVec Ideal S128x512 .bf16) (km : FVec Ideal S16x128 .bf16) (r : Fin 512) :
    k0_pay6 (F := Ideal) q km (ix2 r 0) = Att.top (score (k0_pay4 q) km r) := by
  unfold Att.top
  simp only [← pay5_apply]
  pointwise [k0_pay6]

theorem pay7_apply (q : FVec Ideal S128x512 .bf16) (km : FVec Ideal S16x128 .bf16) (r : Fin 512) (x : Fin 16) :
    k0_pay7 (F := Ideal) q km (ix2 r x) = Ideal.exp (score (k0_pay4 q) km r x - Att.top (score (k0_pay4 q) km r)) := by
  rw [← pay5_apply, ← pay6_apply]
  pointwise [k0_pay7]

theorem start0_at (q : FVec Ideal S128x512 .bf16) (km vm : FVec Ideal S16x128 .bf16) (r : Fin 512) (d : Fin 128) :
    (start0 q km vm).at r d = Att.first (score (k0_pay4 q) km r) (fun x => vm (ix2 x d)) := by
  unfold Att.first
  simp only [← pay7_apply]
  rw [← pay6_apply]
  refine Prod.ext rfl (Prod.ext ?_ ?_)
  · show k0_pay8 (F := Ideal) q km (ix2 r 0) = _
    pointwise [k0_pay8]
  · show k0_pay9 (F := Ideal) q km vm (ix2 r d) = _
    pointwise [k0_pay9]

/-- The same of the second key head. -/
theorem pay13_apply (q : FVec Ideal S128x512 .f32) (km : FVec Ideal S16x128 .bf16) (b : IVec S128x128 1) (z : FVec Ideal S128x128 .f32)
    (e : EReal) (r : Fin 512) (x : Fin 16) : k0_pay13 (F := Ideal) q km b z e (ix2 r x) = score (k0_pay12 (F := Ideal) q b z e) km r x := by
  unfold score
  pointwise [k0_pay13]

theorem pay14_apply (q : FVec Ideal S128x512 .f32) (km : FVec Ideal S16x128 .bf16) (b : IVec S128x128 1) (z : FVec Ideal S128x128 .f32)
    (e : EReal) (r : Fin 512) : k0_pay14 (F := Ideal) q km b z e (ix2 r 0) = Att.top (score (k0_pay12 (F := Ideal) q b z e) km r) := by
  unfold Att.top
  simp only [← pay13_apply]
  pointwise [k0_pay14]

theorem pay15_apply (q : FVec Ideal S128x512 .f32) (km : FVec Ideal S16x128 .bf16) (b : IVec S128x128 1) (z : FVec Ideal S128x128 .f32)
    (e : EReal) (r : Fin 512) (x : Fin 16) : k0_pay15 (F := Ideal) q km b z e (ix2 r x)
      = Ideal.exp (score (k0_pay12 (F := Ideal) q b z e) km r x - Att.top (score (k0_pay12 (F := Ideal) q b z e) km r)) := by
  rw [← pay13_apply, ← pay14_apply]
  pointwise [k0_pay15]

theorem start1_at (q : FVec Ideal S128x512 .bf16) (km vm : FVec Ideal S16x128 .bf16) (r : Fin 512) (d : Fin 128) :
    (start1 q km vm).at r d = Att.first (score (queries1 q) km r) (fun x => vm (ix2 x d)) := by
  unfold Att.first queries1
  simp only [← pay15_apply]
  rw [← pay14_apply]
  refine Prod.ext rfl (Prod.ext ?_ ?_)
  · show k0_pay16 (F := Ideal) _ km _ _ _ (ix2 r 0) = _
    pointwise [k0_pay16]
  · show k0_pay17 (F := Ideal) _ km vm _ _ _ (ix2 r d) = _
    pointwise [k0_pay17]

theorem next_at (q k v : FVec Ideal S512x128 .bf16) (p : Triple) (r : Fin 512) (d : Fin 128) :
    (next q k v p).at r d = Att.more (score q k r) (fun x => v (ix2 x d)) (p.at r d) := by
  refine congrArg₂ Prod.mk ?_ (congrArg₂ Prod.mk ?_ ?_)
  · show k0_pay19 q p.1 k (ix2 r 0) = _
    pointwise [k0_pay19, k0_pay18]
    rfl
  · show k0_pay22 q p.1 p.2.1 k (ix2 r 0) = _
    pointwise [k0_pay22, k0_pay21, k0_pay20, k0_pay19, k0_pay18]
    rfl
  · show k0_pay23 q p.1 p.2.2 k v (ix2 r d) = _
    pointwise [k0_pay23, k0_pay21, k0_pay20, k0_pay19, k0_pay18]
    rfl

end Cert.KernelGlobalIdeal.Gen
-- ==== Proof.AttPoint.lean ====
/- What one grid point of the attention kernel leaves: the two key heads' triples after the meta keys and four chunks
   of keys, divided and put back in the order of the heads. -/
module

public import proofs.«01_k».proof.Proof.AttPayload
public import proofs.«01_k».proof.Proof.Gen.KernelGlobalIdeal.Frame
public import Idealize.ShloMosaic.Lib.Pipeline.ValueKit
public import Idealize.ShloMosaic.Lib.Pipeline.ReadBack

@[expose] public section

set_option maxRecDepth 16384

noncomputable section

open Idealize.ShloMosaic

namespace Cert.KernelGlobalIdeal.Gen

/-- The 512 rows of a sequence's keys or values from row `o`. -/
def chunk (x : Vec Ideal S2048x128 .bf16) (o : ℕ) (inb : ∀ a, (![o, 0] : Fin 2 → ℕ) a + (![512, 128] : Fin 2 → ℕ) a ≤ S2048x128.size a) :
    Vec Ideal S512x128 .bf16 :=
  View.ld x (Rect.unit ![o, 0] ![512, 128] inb)

/-- The four chunks of the keys of a sequence, one after the other. -/
def chunks (q : FVec Ideal S512x128 .bf16) (k v : Vec Ideal S2048x128 .bf16) (p : Triple) : Triple :=
  next q (chunk k 1536 inb_S2048x128_S512x128_1536_0) (chunk v 1536 inb_S2048x128_S512x128_1536_0)
    (next q (chunk k 1024 inb_S2048x128_S512x128_1024_0) (chunk v 1024 inb_S2048x128_S512x128_1024_0)
      (next q (chunk k 512 inb_S2048x128_S512x128_512_0) (chunk v 512 inb_S2048x128_S512x128_512_0)
        (next q (chunk k 0 inb_S2048x128_S512x128_0_0) (chunk v 0 inb_S2048x128_S512x128_0_0) p)))

/-- The weighted values over the weights of the first key head, in the order of the heads. -/
def heads0 (p : Triple) : FVec Ideal S128x256 .bf16 :=
  k0_pay1 (divf p.2.2 (broadcastTo S512x128 p.2.1 broadcasts_S512x1_S512x128)) k0_pay61
    (extractStridedSlice S128x128 ![0, 0] (divf p.2.2 (broadcastTo S512x128 p.2.1 broadcasts_S512x1_S512x128)) slices_S512x128_o0_0_S128x128)
    (extractStridedSlice S128x128 ![128, 0] (divf p.2.2 (broadcastTo S512x128 p.2.1 broadcasts_S512x1_S512x128)) slices_S512x128_o128_0_S128x128)

/-- The same of the second key head. -/
def heads1 (p : Triple) : FVec Ideal S128x256 .bf16 := k0_pay2 p.2.1 p.2.2

variable (m : (ℓ : Loc nD τ sig) → Buf (Elt Ideal) ℓ)

/-- The triples of a point. -/
def triple0 (c : Dev nD) (t : Fin cfg0.N) : Triple :=
  chunks (k0_pay4 (iblk m c 0 t)) (X0_1 m c t) (X0_2 m c t) (start0 (iblk m c 0 t) (iblk m c 3 t) (iblk m c 4 t))
def triple1 (c : Dev nD) (t : Fin cfg0.N) : Triple :=
  chunks (queries1 (iblk m c 0 t)) (X0_1 m c t) (X0_2 m c t) (start1 (iblk m c 0 t) (iblk m c 3 t) (iblk m c 4 t))

/-- The two stores of a point. -/
theorem left (c : Dev nD) (t : Fin cfg0.N) : outsAt0 m c t
    = View.canon [⟨Rect.unit ![0, 256] ![128, 256] inb_S128x512_S128x256_0_256, heads1 (triple1 m c t)⟩,
        ⟨Rect.unit ![0, 0] ![128, 256] inb_S128x512_S128x256_0_0, heads0 (triple0 m c t)⟩] := by
  unfold outsAt0
  frame_open
  simp (disch := decide) only [↓ View.readCov_skip, ↓ View.readCov_cons_toLoadRect, ↓ View.readCov_fill]
  frame_out
  rfl

end Cert.KernelGlobalIdeal.Gen
-- ==== Proof.AttBlocks.lean ====
/- The blocks the attention kernel's points read and the rows they write, as rows of the call's arguments. -/
module

public import proofs.«01_k».proof.Proof.AttPoint
public import Idealize.ShloMosaic.Lib.Pipeline.ValueKit.Held

@[expose] public section

set_option maxRecDepth 16384

noncomputable section

open Idealize.ShloMosaic

namespace Cert.KernelGlobalIdeal.Gen

/-- The printed index maps over the grid: sixteen row blocks per sequence. -/
theorem idx (t : Fin cfg0.N) : win0_0.index t = ![512 + t.val, 0] ∧ win0_1.index t = ![32 + t.val / 16, 0]
    ∧ win0_2.index t = ![32 + t.val / 16, 0] ∧ win0_3.index t = ![8208 + t.val / 16, 0] ∧ win0_4.index t = ![8208 + t.val / 16, 0]
    ∧ win0_5.index t = ![512 + t.val, 0] :=
  (by decide +kernel : ∀ t : Fin grid0.N, win0_0.index t = ![512 + t.val, 0] ∧ win0_1.index t = ![32 + t.val / 16, 0]
    ∧ win0_2.index t = ![32 + t.val / 16, 0] ∧ win0_3.index t = ![8208 + t.val / 16, 0] ∧ win0_4.index t = ![8208 + t.val / 16, 0]
    ∧ win0_5.index t = ![512 + t.val, 0]) t

theorem lt_N (t : Fin cfg0.N) : t.val < 512 := lt_of_lt_of_eq t.isLt N_0

/-- Query row `r` of point `t`. -/
def qrow (t : Fin cfg0.N) (r : Fin 128) : Fin 132096 := ⟨65536 + (t.val * 128 + r.val), by have := lt_N t; omega⟩

/-- Key `x` of the sequence of point `t`. -/
def krow (t : Fin cfg0.N) (x : Fin 2048) : Fin 132096 := ⟨65536 + (t.val / 16 * 2048 + x.val), by have := lt_N t; omega⟩

/-- Meta key `x` of the sequence of point `t`. -/
def mrow (t : Fin cfg0.N) (x : Fin 16) : Fin 132096 := ⟨131328 + (t.val / 16 * 16 + x.val), by have := lt_N t; omega⟩

variable (m : (ℓ : Loc nD τ sig) → Buf (Elt Ideal) ℓ)

theorem blk_q (c : Dev nD) (t : Fin cfg0.N) (r : Fin 128) (d : Fin 512) :
    iblk m c 0 t (ix2 r d) = m ((c.tc : Thread nD τ).loc main_arg0) (ix2 (qrow t r) ⟨d.val, by omega⟩) := by
  rw [← V_main_arg0 m c]
  unfold qrow
  blk_point [iblk, idx t]

theorem blk_km (c : Dev nD) (t : Fin cfg0.N) (x : Fin 16) (l : Fin 128) :
    iblk m c 3 t (ix2 x l) = m ((c.tc : Thread nD τ).loc main_arg1) (ix2 (mrow t x) ⟨l.val, by omega⟩) := by
  rw [← V_main_arg1 m c]
  unfold mrow
  blk_point [iblk, idx t]

theorem blk_vm (c : Dev nD) (t : Fin cfg0.N) (x : Fin 16) (l : Fin 128) :
    iblk m c 4 t (ix2 x l) = m ((c.tc : Thread nD τ).loc main_arg2) (ix2 (mrow t x) ⟨l.val, by omega⟩) := by
  rw [← V_main_arg2 m c]
  unfold mrow
  blk_point [iblk, idx t]

theorem blk_k (c : Dev nD) (t : Fin cfg0.N) (x : Fin 2048) (l : Fin 128) :
    X0_1 m c t (ix2 x l) = m ((c.tc : Thread nD τ).loc main_arg1) (ix2 (krow t x) ⟨l.val, by omega⟩) := by
  rw [← V_main_arg1 m c]
  unfold krow X0_1 Pipeline.Window.fill
  rw [dif_pos (moved0_1 t _)]
  blk_point [iblk, idx t]

theorem blk_v (c : Dev nD) (t : Fin cfg0.N) (x : Fin 2048) (l : Fin 128) :
    X0_2 m c t (ix2 x l) = m ((c.tc : Thread nD τ).loc main_arg2) (ix2 (krow t x) ⟨l.val, by omega⟩) := by
  rw [← V_main_arg2 m c]
  unfold krow X0_2 Pipeline.Window.fill
  rw [dif_pos (moved0_2 t _)]
  blk_point [iblk, idx t]

/-- A chunk's row is a row of the whole. -/
theorem chunk_apply (x : Vec Ideal S2048x128 .bf16) (o : ℕ) (inb) (ho : o ≤ 1536) (r : Fin 512) (l : Fin 128) :
    chunk x o inb (ix2 r l) = x (ix2 ⟨o + r.val, by omega⟩ l) := by
  refine congrArg x (funext fun a => Fin.ext ?_)
  match a with
  | ⟨0, _⟩ => show o + 1 * r.val = o + r.val; omega
  | ⟨1, _⟩ => show 0 + 1 * l.val = l.val; omega

/-- The written blocks are the row blocks 512 to 1023 of the first column block. -/
theorem covers : win0_5.CoversWhere (fun β => (512 ≤ β (0 : Fin 2) ∧ β (0 : Fin 2) < 1024) ∧ β (1 : Fin 2) = 0) := by
  decide +kernel

end Cert.KernelGlobalIdeal.Gen
-- ==== Proof.AttHeads.lean ====
/- Where the heads lie: query column `64·h + e` is element `e` of head `h`, four heads share a key head of 64 lanes, and
   the kernel stacks the query rows of a key head's four heads, their other lanes zero. -/
module

public import proofs.«01_k».proof.Proof.AttPoint

@[expose] public section

set_option maxRecDepth 16384

noncomputable section

open Idealize.ShloMosaic

namespace Cert.KernelGlobalIdeal.Gen

/-- A selection on a lane below 64. -/
theorem select_lt {α : Type} (n : ℕ) (hn : n < 128) (a b : α) :
    Scalar.select (IntOp.cmpi CmpIPredicate.slt (BitVec.ofNat 32 n) 64#32) a b = if n < 64 then a else b := by
  have h : IntOp.cmpi CmpIPredicate.slt (BitVec.ofNat 32 n) 64#32 = if n < 64 then 1#1 else 0#1 :=
    (by decide +kernel : ∀ n : Fin 128, IntOp.cmpi CmpIPredicate.slt (BitVec.ofNat 32 n.val) 64#32 = if n.val < 64 then 1#1 else 0#1) ⟨n, hn⟩
  rw [h]
  split_ifs <;> rfl

/-- A selection on a lane from 64. -/
theorem select_ge {α : Type} (n : ℕ) (hn : n < 128) (a b : α) :
    Scalar.select (IntOp.cmpi CmpIPredicate.sge (BitVec.ofNat 32 n) 64#32) a b = if n < 64 then b else a := by
  have h : IntOp.cmpi CmpIPredicate.sge (BitVec.ofNat 32 n) 64#32 = if n < 64 then 0#1 else 1#1 :=
    (by decide +kernel : ∀ n : Fin 128, IntOp.cmpi CmpIPredicate.sge (BitVec.ofNat 32 n.val) 64#32 = if n.val < 64 then 0#1 else 1#1) ⟨n, hn⟩
  rw [h]
  split_ifs <;> rfl

/-- The stacked row of query row `r` for the head of a key head. -/
def stacked (h : Fin 4) (r : Fin 128) : Fin 512 := ⟨h.val * 128 + r.val, by omega⟩

/-- The stacked queries of the first key head. -/
theorem queries0_apply (q : FVec Ideal S128x512 .bf16) (h : Fin 4) (r l : Fin 128) :
    k0_pay4 (F := Ideal) q (ix2 (stacked h r) l)
      = if hl : l.val < 64 then q (ix2 r ⟨h.val * 64 + l.val, by omega⟩) else 0 := by
  unfold stacked
  pointwise [k0_pay4, k0_pay3]
  have hl := l.isLt
  simp only [select_lt _ hl]
  split_ifs <;> first | rfl | exact congrArg q (congrArg₂ ix2 (Fin.ext (by dsimp only; omega)) (Fin.ext (by dsimp only; omega)))

/-- The stacked queries of the second key head. -/
theorem queries1_apply (q : FVec Ideal S128x512 .bf16) (h : Fin 4) (r l : Fin 128) :
    queries1 q (ix2 (stacked h r) l)
      = if hl : l.val < 64 then 0 else q (ix2 r ⟨256 + (h.val * 64 + (l.val - 64)), by omega⟩) := by
  unfold stacked queries1
  pointwise [k0_pay12, k0_pay11, k0_pay10, k0_pay3]
  have hl := l.isLt
  simp only [select_ge _ hl]
  split_ifs <;> first | rfl | exact congrArg q (congrArg₂ ix2 (Fin.ext (by dsimp only; omega)) (Fin.ext (by dsimp only; omega)))

/-- A sum over the lanes of a pair of key heads that is zero off the first. -/
theorem sum_low (f : Fin 128 → EReal) (h : ∀ l : Fin 128, 64 ≤ l.val → f l = 0) : ∑ l, f l = ∑ e : Fin 64, f ⟨e.val, by omega⟩ := by
  rw [show ∑ l, f l = ∑ l : Fin (64 + 64), f l from rfl, Fin.sum_univ_add,
    Finset.sum_eq_zero (s := Finset.univ) (f := fun e : Fin 64 => f (Fin.natAdd 64 e)) (fun e _ => h _ (by simp)), add_zero]
  rfl

/-- … and off the second. -/
theorem sum_high (f : Fin 128 → EReal) (h : ∀ l : Fin 128, l.val < 64 → f l = 0) : ∑ l, f l = ∑ e : Fin 64, f ⟨64 + e.val, by omega⟩ := by
  rw [show ∑ l, f l = ∑ l : Fin (64 + 64), f l from rfl, Fin.sum_univ_add,
    Finset.sum_eq_zero (s := Finset.univ) (f := fun e : Fin 64 => f (Fin.castAdd 64 e)) (fun e _ => h _ (by simp)), zero_add]
  rfl

/-- The score of a stacked row of the first key head. -/
theorem score0 {n : ℕ} (q : FVec Ideal S128x512 .bf16) (k : FVec Ideal (⟨2, ![n, 128]⟩ : Shape) .bf16) (h : Fin 4) (r : Fin 128) (x : Fin n) :
    score (k0_pay4 (F := Ideal) q) k (stacked h r) x
      = ∑ e : Fin 64, (q (ix2 r ⟨h.val * 64 + e.val, by omega⟩) : EReal) * k (ix2 x ⟨e.val, by omega⟩) := by
  unfold score
  simp only [queries0_apply]
  rw [sum_low _ (fun l hl => by rw [dif_neg (by omega), zero_mul])]
  refine Finset.sum_congr rfl fun e _ => ?_
  rw [dif_pos e.isLt]

/-- The score of a stacked row of the second key head. -/
theorem score1 {n : ℕ} (q : FVec Ideal S128x512 .bf16) (k : FVec Ideal (⟨2, ![n, 128]⟩ : Shape) .bf16) (h : Fin 4) (r : Fin 128) (x : Fin n) :
    score (queries1 q) k (stacked h r) x
      = ∑ e : Fin 64, (q (ix2 r ⟨256 + (h.val * 64 + e.val), by omega⟩) : EReal) * k (ix2 x ⟨64 + e.val, by omega⟩) := by
  unfold score
  simp only [queries1_apply]
  rw [sum_high _ (fun l hl => by rw [dif_pos hl, zero_mul])]
  refine Finset.sum_congr rfl fun e _ => ?_
  rw [dif_neg (by simp)]
  exact congrArg₂ (fun a b : EReal => a * b) (congrArg q (congrArg₂ ix2 rfl (Fin.ext (by dsimp only; omega)))) rfl

/-- The stored columns of the first key head. -/
theorem heads0_apply (p : Triple) (r : Fin 128) (h : Fin 4) (e : Fin 64) :
    heads0 p (ix2 r ⟨h.val * 64 + e.val, by omega⟩)
      = Ideal.div (p.at (stacked h r) ⟨e.val, by omega⟩).2.2 (p.at (stacked h r) ⟨e.val, by omega⟩).2.1 := by
  show _ = Ideal.div (p.2.2 (ix2 (stacked h r) ⟨e.val, by omega⟩)) (p.2.1 (ix2 (stacked h r) 0))
  unfold stacked
  pointwise [heads0, k0_pay1, k0_pay61]
  have hd : h.val * 64 + e.val < 256 := by omega
  split_ifs with h1 <;> rw [select_lt _ (by omega)] <;> split_ifs <;>
    exact congrArg₂ Ideal.div (congrArg p.2.2 (congrArg₂ ix2 (Fin.ext (by dsimp only; omega)) (Fin.ext (by dsimp only; omega))))
      (congrArg p.2.1 (congrArg₂ ix2 (Fin.ext (by dsimp only; omega)) rfl))

/-- The stored columns of the second key head. -/
theorem heads1_apply (p : Triple) (r : Fin 128) (h : Fin 4) (e : Fin 64) :
    heads1 p (ix2 r ⟨h.val * 64 + e.val, by omega⟩)
      = Ideal.div (p.at (stacked h r) ⟨64 + e.val, by omega⟩).2.2 (p.at (stacked h r) ⟨64 + e.val, by omega⟩).2.1 := by
  show _ = Ideal.div (p.2.2 (ix2 (stacked h r) ⟨64 + e.val, by omega⟩)) (p.2.1 (ix2 (stacked h r) 0))
  unfold stacked
  pointwise [heads1, k0_pay2]
  have hd : h.val * 64 + e.val < 256 := by omega
  split_ifs with h1 <;> rw [select_lt _ (by omega)] <;> split_ifs <;>
    exact congrArg₂ Ideal.div (congrArg p.2.2 (congrArg₂ ix2 (Fin.ext (by dsimp only; omega)) (Fin.ext (by dsimp only; omega))))
      (congrArg p.2.1 (congrArg₂ ix2 (Fin.ext (by dsimp only; omega)) rfl))

end Cert.KernelGlobalIdeal.Gen
-- ==== Proof.AttKernel.lean ====
/- The array of the attention kernel, element by element. -/
module

public import proofs.«01_k».proof.Proof.AttBlocks
public import proofs.«01_k».proof.Proof.AttHeads
public import proofs.«01_k».proof.Proof.Gen.KernelGlobalIdeal.Value

@[expose] public section

set_option maxRecDepth 16384

noncomputable section

open Idealize.ShloMosaic

namespace Cert.KernelGlobalIdeal.Gen

open Att (keyRow)

/-- A score against a chunk's key is the score against the key of the whole. -/
theorem score_chunk (q : FVec Ideal S512x128 .bf16) (k : Vec Ideal S2048x128 .bf16) (o : ℕ) (inb) (ho : o ≤ 1536) (r : Fin 512) (x : Fin 512) :
    score (n := 512) q (chunk k o inb) r x = score (n := 2048) q k r ⟨o + x.val, by omega⟩ := by
  unfold score
  simp only [chunk_apply k o inb ho]

/-- After the meta keys and the four chunks the triple holds the sums over all 2064 keys. -/
theorem chunks_holds (q : FVec Ideal S512x128 .bf16) (k v : Vec Ideal S2048x128 .bf16) (p : Triple) (r : Fin 512) (d : Fin 128)
    (s : Fin 2064 → ℝ) (w : Fin 2064 → EReal)
    (hp : p.at r d = Att.first (fun x : Fin 16 => (s ⟨x.val, by omega⟩ : EReal)) (fun x => w ⟨x.val, by omega⟩))
    (hs : ∀ x : Fin 2048, score (n := 2048) q k r x = (s ⟨16 + x.val, by omega⟩ : EReal)) (hv : ∀ x : Fin 2048, v (ix2 x d) = w ⟨16 + x.val, by omega⟩) :
    Att.Holds (∑ y, Real.exp (s y)) (∑ y, ((Real.exp (s y) : ℝ) : EReal) * w y) ((chunks q k v p).at r d) := by
  have hsc : ∀ (o : ℕ) (inb) (ho : o ≤ 1536), score (n := 512) q (chunk k o inb) r = fun x => (s ⟨16 + (o + x.val), by omega⟩ : EReal) :=
    fun o inb ho => funext fun x => (score_chunk q k o inb ho r x).trans (hs _)
  have hvc : ∀ (o : ℕ) (inb) (ho : o ≤ 1536), (fun x : Fin 512 => (chunk v o inb (ix2 x d) : EReal)) = fun x => w ⟨16 + (o + x.val), by omega⟩ :=
    fun o inb ho => funext fun x => (chunk_apply v o inb ho x d).trans (hv _)
  unfold chunks
  rw [next_at, next_at, next_at, next_at, hp, hsc 0 _ (by omega), hsc 512 _ (by omega), hsc 1024 _ (by omega), hsc 1536 _ (by omega),
    hvc 0 _ (by omega), hvc 512 _ (by omega), hvc 1024 _ (by omega), hvc 1536 _ (by omega)]
  exact Att.sweep_holds s w

variable (m : (ℓ : Loc nD τ sig) → Buf (Elt Ideal) ℓ)

/-- The sequence of a point. -/
def seq (t : Fin cfg0.N) : Fin 32 := ⟨t.val / 16, by have := lt_N t; omega⟩

theorem keyRow_meta (t : Fin cfg0.N) (x : Fin 16) : keyRow (seq t) ⟨x.val, by omega⟩ = mrow t x := by
  unfold keyRow
  rw [dif_pos x.isLt]
  rfl

theorem keyRow_key (t : Fin cfg0.N) (x : Fin 2048) : keyRow (seq t) ⟨16 + x.val, by omega⟩ = krow t x := by
  unfold keyRow
  rw [dif_neg (by dsimp only; omega)]
  exact Fin.ext (by show 65536 + (t.val / 16 * 2048 + (16 + x.val - 16)) = 65536 + (t.val / 16 * 2048 + x.val); omega)

/-- The first 256 columns a point leaves. -/
theorem left_low (c : Dev nD) (t : Fin cfg0.N) (r : Fin 128) (d : Fin 256) :
    outsAt0 m c t (ix2 r ⟨d.val, by omega⟩) = heads0 (triple0 m c t) (ix2 r d) := by
  rw [left]
  rw [View.canon_cons_of_not_mem]
  · have he : (ix2 r ⟨d.val, by omega⟩ : S128x512.Idx) = (Rect.unit ![0, 0] ![128, 256] inb_S128x512_S128x256_0_0).emb (ix2 r d) := by
      funext a
      match a with
      | ⟨0, _⟩ => exact Fin.ext (by show r.val = 0 + 1 * r.val; omega)
      | ⟨1, _⟩ => exact Fin.ext (by show d.val = 0 + 1 * d.val; omega)
    rw [he]
    exact View.canon_cons_emb _ _ _ _
  · intro hm
    obtain ⟨x, hx⟩ := (Rect.unit (s := S128x512) ![0, 256] ![128, 256] inb_S128x512_S128x256_0_256).exists_idx_of_mem hm
    have h1 : 256 + 1 * (x 1).val = d.val := congrArg (fun i : S128x512.Idx => (i 1).val) hx
    omega

/-- The last 256. -/
theorem left_high (c : Dev nD) (t : Fin cfg0.N) (r : Fin 128) (d : Fin 256) :
    outsAt0 m c t (ix2 r ⟨256 + d.val, by omega⟩) = heads1 (triple1 m c t) (ix2 r d) := by
  rw [left]
  have he : (ix2 r ⟨256 + d.val, by omega⟩ : S128x512.Idx) = (Rect.unit ![0, 256] ![128, 256] inb_S128x512_S128x256_0_256).emb (ix2 r d) := by
    funext a
    match a with
    | ⟨0, _⟩ => exact Fin.ext (by show r.val = 0 + 1 * r.val; omega)
    | ⟨1, _⟩ => exact Fin.ext (by show 256 + d.val = 256 + 1 * d.val; omega)
  rw [he]
  exact View.canon_cons_emb _ _ _ _

/-- An element of the first key head's columns, where the scores of its row are real. -/
theorem low_apply (c : Dev nD) (t : Fin cfg0.N) (r : Fin 128) (h : Fin 4) (e : Fin 64) (s : Fin 2064 → ℝ)
    (hs : ∀ y, Att.dot (fun i => m ((c.tc : Thread nD τ).loc main_arg0) (ix2 (qrow t r) ⟨h.val * 64 + i.val, by omega⟩))
      (fun i => m ((c.tc : Thread nD τ).loc main_arg1) (ix2 (keyRow (seq t) y) ⟨i.val, by omega⟩)) = (s y : EReal)) :
    outsAt0 m c t (ix2 r ⟨h.val * 64 + e.val, by omega⟩)
      = Att.attended s (fun y => m ((c.tc : Thread nD τ).loc main_arg2) (ix2 (keyRow (seq t) y) ⟨e.val, by omega⟩)) := by
  refine (left_low m c t r ⟨h.val * 64 + e.val, by omega⟩).trans ((heads0_apply _ r h e).trans (Att.div_holds (Att.sum_exp_pos s) ?_))
  unfold triple0
  refine chunks_holds _ _ _ _ _ _ s _ ?_ (fun x => ?_) (fun x => ?_)
  · rw [start0_at]
    refine congrArg₂ Att.first (funext fun x => ?_) (funext fun x => ?_)
    · rw [score0, ← hs, keyRow_meta]
      unfold Att.dot
      simp only [blk_q, blk_km]
    · rw [keyRow_meta]
      exact blk_vm m c t x _
  · rw [score0, ← hs, keyRow_key]
    unfold Att.dot
    simp only [blk_q, blk_k]
  · rw [keyRow_key]
    exact blk_v m c t x _

/-- An element of the second key head's columns. -/
theorem high_apply (c : Dev nD) (t : Fin cfg0.N) (r : Fin 128) (h : Fin 4) (e : Fin 64) (s : Fin 2064 → ℝ)
    (hs : ∀ y, Att.dot (fun i => m ((c.tc : Thread nD τ).loc main_arg0) (ix2 (qrow t r) ⟨256 + (h.val * 64 + i.val), by omega⟩))
      (fun i => m ((c.tc : Thread nD τ).loc main_arg1) (ix2 (keyRow (seq t) y) ⟨64 + i.val, by omega⟩)) = (s y : EReal)) :
    outsAt0 m c t (ix2 r ⟨256 + (h.val * 64 + e.val), by omega⟩)
      = Att.attended s (fun y => m ((c.tc : Thread nD τ).loc main_arg2) (ix2 (keyRow (seq t) y) ⟨64 + e.val, by omega⟩)) := by
  refine (left_high m c t r ⟨h.val * 64 + e.val, by omega⟩).trans ((heads1_apply _ r h e).trans (Att.div_holds (Att.sum_exp_pos s) ?_))
  unfold triple1
  refine chunks_holds _ _ _ _ _ _ s _ ?_ (fun x => ?_) (fun x => ?_)
  · rw [start1_at]
    refine congrArg₂ Att.first (funext fun x => ?_) (funext fun x => ?_)
    · rw [score1, ← hs, keyRow_meta]
      unfold Att.dot
      simp only [blk_q, blk_km]
    · rw [keyRow_meta]
      exact blk_vm m c t x _
  · rw [score1, ← hs, keyRow_key]
    unfold Att.dot
    simp only [blk_q, blk_k]
  · rw [keyRow_key]
    exact blk_v m c t x _

end Cert.KernelGlobalIdeal.Gen
-- ==== Proof.AttArray.lean ====
/- The array after the attention kernel: the second group's rows of the first 512 columns are what the points leave,
   every other element is the previous call's. -/
module

public import proofs.«01_k».proof.Proof.AttKernel
public import Idealize.ShloMosaic.Lib.Pipeline.ValueKit.Partial

@[expose] public section

set_option maxRecDepth 16384

noncomputable section

open Idealize.ShloMosaic

namespace Cert.KernelGlobalIdeal.Gen

variable (m : (ℓ : Loc nD τ sig) → Buf (Elt Ideal) ℓ)

/-- The written part. -/
def Written (i : S132096x1536.Idx) : Prop := (512 ≤ (i 0).val / 128 ∧ (i 0).val / 128 < 1024) ∧ (i 1).val / 512 = 0

instance : DecidablePred Written := fun _ => inferInstanceAs (Decidable (_ ∧ _))

/-- What the points leave, at an index of the array. -/
def written (c : Dev nD) (i : S132096x1536.Idx) : Elt Ideal .bf16 :=
  if h : (i 0).val / 128 - 512 < cfg0.N then
    outsAt0 m c ⟨(i 0).val / 128 - 512, h⟩ (ix2 ⟨(i 0).val % 128, by omega⟩ ⟨(i 1).val % 512, by omega⟩)
  else (0 : EReal)

theorem written_at (c : Dev nD) (i : S132096x1536.Idx) (t : Fin cfg0.N) (y : S128x512.Idx)
    (e0 : (i 0).val = 128 * (512 + t.val) + (y 0).val) (e1 : (i 1).val = (y 1).val) :
    written m c i = outsAt0 m c t y := by
  have b0 : (y 0).val < 128 := (y 0).isLt
  have b1 : (y 1).val < 512 := (y 1).isLt
  have ht : (i 0).val / 128 - 512 = t.val := by omega
  unfold written
  rw [dif_pos (by rw [ht]; exact t.isLt)]
  have hy : (ix2 ⟨(i 0).val % 128, by omega⟩ ⟨(i 1).val % 512, by omega⟩ : S128x512.Idx) = y := by
    funext a
    match a with
    | ⟨0, _⟩ => exact Fin.ext (show (i 0).val % 128 = (y 0).val by omega)
    | ⟨1, _⟩ => exact Fin.ext (show (i 1).val % 512 = (y 1).val by omega)
  rw [hy]
  exact congrArg (fun t => outsAt0 m c t y) (Fin.ext ht)

theorem array_eq (c : Dev nD) :
    (dats m 0 c).arrAt 5 cfg0.N = fun i => if Written i then written m c i else (dats m 0 c).A 5 i := by
  refine (dats m 0 c).arrAt_eq_of_coversWhere 5 (written m c) (fun β => (512 ≤ β (0 : Fin 2) ∧ β (0 : Fin 2) < 1024) ∧ β (1 : Fin 2) = 0) covers
    (fun t hf y => ?_) (fun j => Iff.rfl)
  have e0 : ((((cfg0.win 5).blk t).view.emb y) 0).val = 128 * (512 + t.val) + (y 0).val := by
    blk_simp [idx t]
    omega
  have e1 : ((((cfg0.win 5).blk t).view.emb y) 1).val = (y 1).val := by
    blk_simp [idx t]
  refine Eq.trans ?_ (written_at m c _ t y e0 e1).symm
  blk_simp
  rw [after0_5]

theorem entry (c : Dev nD) (i : S132096x1536.Idx) : (dats m 0 c).A 5 i = m ((c.tc : Thread nD τ).loc main_arg3) i := by
  rw [A_eq]
  rfl

end Cert.KernelGlobalIdeal.Gen
-- ==== Proof.AttReference.lean ====
/- The reference's attention, element by element. -/
module

public import proofs.«01_k».proof.Proof.AttSpec
public import proofs.«01_k».proof.Proof.Gen.ReferenceGlobalIdeal.Run

@[expose] public section

set_option maxRecDepth 16384

noncomputable section

open Idealize.ShloMosaic
open Cert.ReferenceGlobalIdeal.Gen

namespace Cert.ReferenceGlobalIdeal.Value

/-- The keys (or values) of every sequence, its registers before its tokens. -/
def gathered (x : FVec Ideal S132096x384 .bf16) : FVec Ideal S32x2064x2x64 .f32 :=
  concatenate S32x2064x2x64 1
    [⟨S32x16x2x64, shapeCast S32x16x2x64 (extractStridedSlice S512x128 ![131328, 0] (extf .f32 x bitsLt_bf16_f32) slices_S132096x384_S512x128_131328_0) shapeCasts_S512x128_S32x16x2x64⟩,
     ⟨S32x2048x2x64, shapeCast S32x2048x2x64 (extractStridedSlice S65536x128 ![65536, 0] (extf .f32 x bitsLt_bf16_f32) slices_S132096x384_S65536x128_65536_0) shapeCasts_S65536x128_S32x2048x2x64⟩]
    concatenates_S32x16x2x64_S32x2048x2x64_S32x2064x2x64_d1

/-- The queries by sequence, key head and head. -/
def queries (x : FVec Ideal S132096x1536 .bf16) : FVec Ideal S32x2048x2x4x64 .f32 :=
  shapeCast S32x2048x2x4x64 (extractStridedSlice S65536x512 ![65536, 0] (extf .f32 x bitsLt_bf16_f32) slices_S132096x1536_S65536x512_65536_0) shapeCasts_S65536x512_S32x2048x2x4x64

/-- Every query against every key. -/
def scores (q : FVec Ideal S32x2048x2x4x64 .f32) (k : FVec Ideal S32x2064x2x64 .f32) : FVec Ideal S32x2x4x2048x2064 .f32 :=
  transpose S32x2x4x2048x2064 [0, 1, 4, 3, 2] (Host.dotGeneral dot_S32x2064x2x64_S32x2048x2x4x64_S32x2x2064x2048x4_3_4_1_13_02_02 none k q) transposes_S32x2x2064x2048x4_S32x2x4x2048x2064_0_1_4_3_2

/-- The largest score of each query. -/
def tops (s : FVec Ideal S32x2x4x2048x2064 .f32) : FVec Ideal S32x2x4x2048 .f32 :=
  maximumf (broadcastInDim S32x2x4x2048 ![] bcast_S_S32x2x4x2048 (constant S_ .f32 0xFF800000#32))
    (Host.reduce FloatOps.maximumf s (constant S_ .f32 0xFF800000#32) reducesTo_S32x2x4x2048x2064_S32x2x4x2048_d4 h_S_)

/-- The exponentials of the scores above the largest. -/
def powers (s : FVec Ideal S32x2x4x2048x2064 .f32) : FVec Ideal S32x2x4x2048x2064 .f32 :=
  Host.exp (subf s (broadcastInDim S32x2x4x2048x2064 ![0, 1, 2, 3, 4] bcast_S32x2x4x2048x1_S32x2x4x2048x2064_0_1_2_3_4
    (broadcastInDim S32x2x4x2048x1 ![0, 1, 2, 3] bcast_S32x2x4x2048_S32x2x4x2048x1_0_1_2_3 (tops s))))

/-- The softmax of the scores. -/
def weights (p : FVec Ideal S32x2x4x2048x2064 .f32) : FVec Ideal S32x2x4x2048x2064 .f32 :=
  Host.divf p (broadcastInDim S32x2x4x2048x2064 ![0, 1, 2, 3, 4] bcast_S32x2x4x2048x1_S32x2x4x2048x2064_0_1_2_3_4
    (broadcastInDim S32x2x4x2048x1 ![0, 1, 2, 3] bcast_S32x2x4x2048_S32x2x4x2048x1_0_1_2_3
      (Host.reduceAdd p (constant S_ .f32 0x00000000#32) reducesTo_S32x2x4x2048x2064_S32x2x4x2048_d4 h_S_)))

/-- The values weighed, laid back out as rows of 512 columns. -/
def weighed (v : FVec Ideal S32x2064x2x64 .f32) (p : FVec Ideal S32x2x4x2048x2064 .f32) : FVec Ideal S65536x512 .bf16 :=
  truncf .bf16 (shapeCast S65536x512 (transpose S32x2048x2x4x64 [0, 4, 1, 3, 2]
    (Host.dotGeneral dot_S32x2064x2x64_S32x2x4x2048x2064_S32x2x64x4x2048_1_4_3_23_02_01 none v p)
    transposes_S32x2x64x4x2048_S32x2048x2x4x64_0_4_1_3_2) shapeCasts_S32x2048x2x4x64_S65536x512) bitsLt_bf16_f32

/-- The group's rows and columns set into the previous call's array. -/
def setIn (o : FVec Ideal S132096x1536 .bf16) (y : FVec Ideal S65536x512 .bf16) : FVec Ideal S132096x1536 .bf16 :=
  concatenate S132096x1536 0
    [⟨S65536x1536, extractStridedSlice S65536x1536 ![0, 0] o slices_S132096x1536_S65536x1536_0_0⟩,
     ⟨S65536x1536, concatenate S65536x1536 1 [⟨S65536x512, y⟩, ⟨S65536x1024, extractStridedSlice S65536x1024 ![65536, 512] o slices_S132096x1536_S65536x1024_65536_512⟩] concatenates_S65536x512_S65536x1024_S65536x1536_d1⟩,
     ⟨S1024x1536, extractStridedSlice S1024x1536 ![131072, 0] o slices_S132096x1536_S1024x1536_131072_0⟩]
    concatenates_S65536x1536_S65536x1536_S1024x1536_S132096x1536_d0

theorem gathered_apply (x : FVec Ideal S132096x384 .bf16) (b : Fin 32) (y : Fin 2064) (g : Fin 2) (e : Fin 64) :
    gathered x (ix4 b y g e) = x (ix2 (Att.keyRow b y) ⟨g.val * 64 + e.val, by omega⟩) := by
  pointwise [gathered]
  unfold Att.keyRow
  split <;> rfl

theorem queries_apply (x : FVec Ideal S132096x1536 .bf16) (b : Fin 32) (t : Fin 2048) (g : Fin 2) (h : Fin 4) (e : Fin 64) :
    queries x (ix5 b t g h e) = x (ix2 ⟨65536 + (b.val * 2048 + t.val), by omega⟩ ⟨g.val * 256 + (h.val * 64 + e.val), by omega⟩) := by
  pointwise [queries]
  exact congrArg (fun d => x (ix2 _ d)) (Fin.ext (Nat.add_assoc _ _ _))

theorem scores_apply (q : FVec Ideal S32x2048x2x4x64 .f32) (k : FVec Ideal S32x2064x2x64 .f32) (b : Fin 32) (g : Fin 2) (h : Fin 4) (t : Fin 2048) (y : Fin 2064) :
    scores q k (ix5 b g h t y) = Att.dot (fun i => q (ix5 b t g h i)) (fun i => k (ix4 b y g i)) := by
  pointwise [scores]
  exact Finset.sum_congr rfl fun i _ => mul_comm _ _

/-- The indices reduced into one query's element are its scores. -/
theorem lift_score (h' : S32x2x4x2048x2064.Reduces [4] S32x2x4x2048) (b : Fin 32) (g : Fin 2) (h : Fin 4) (t : Fin 2048) (y : Fin (S32x2x4x2048x2064.size 4)) :
    h'.lift (ix4 b g h t) y = ix5 b g h t (⟨y.val, y.isLt⟩ : Fin 2064) := by
  funext a
  apply Fin.ext
  refine (h'.lift_val (ix4 b g h t) y a).trans ?_
  match a with
  | ⟨0, _⟩ => rfl
  | ⟨1, _⟩ => rfl
  | ⟨2, _⟩ => rfl
  | ⟨3, _⟩ => rfl
  | ⟨4, _⟩ => rfl

/-- The largest of real numbers, from minus infinity, is real. -/
theorem reduce_real {s t u : Shape} {a : Fin s.rank} (x : FVec Ideal s .f32) (init : FVec Ideal u .f32) (h' : s.ReducesTo [a] t) (h : s.Reduces [a] t)
    (hu : 0 < u.numel) (j : t.Idx) (hi : init (Shape.Idx.first hu) = (⊥ : EReal)) (k : Fin (s.size a))
    (hx : ∀ k, x (h.lift j k) ≠ (⊤ : EReal) ∧ x (h.lift j k) ≠ (⊥ : EReal)) :
    ∃ μ : ℝ, Host.reduce FloatOps.maximumf x init h' hu j = (μ : EReal) := by
  have e : Host.reduce FloatOps.maximumf x init h' hu j = (Finset.univ : Finset (Fin (s.size a))).fold max (init (Shape.Idx.first hu) : EReal) (fun k => x (h.lift j k)) :=
    Host.reduce_eq_fold_single (α := EReal) max x init h' h hu j
  rw [e, hi]
  have hlt : (Finset.univ : Finset (Fin (s.size a))).fold max (⊥ : EReal) (fun k => x (h.lift j k)) < ⊤ := by
    rw [Finset.fold_max_lt]
    exact ⟨bot_lt_top, fun k _ => lt_top_iff_ne_top.mpr (hx k).1⟩
  have hgt : ⊥ < (Finset.univ : Finset (Fin (s.size a))).fold max (⊥ : EReal) (fun k => x (h.lift j k)) := by
    rw [Finset.lt_fold_max]
    exact Or.inr ⟨k, Finset.mem_univ _, bot_lt_iff_ne_bot.mpr (hx k).2⟩
  exact ⟨_, (EReal.coe_toReal hlt.ne hgt.ne').symm⟩

theorem bottom : Ideal.ofBits FTy.f32 0xFF800000#32 = (⊥ : EReal) := by
  simp [Ideal.ofBits, Ideal.ieee]

/-- The largest score and minus infinity, whichever is larger. -/
theorem tops_apply (s : FVec Ideal S32x2x4x2048x2064 .f32) (j : S32x2x4x2048.Idx) :
    tops s j = max (Ideal.ofBits FTy.f32 0xFF800000#32)
      (Host.reduce FloatOps.maximumf s (constant S_ .f32 0xFF800000#32) reducesTo_S32x2x4x2048x2064_S32x2x4x2048_d4 h_S_ j) := by
  unfold tops
  have hm : ∀ (s : Shape) (a b : FVec Ideal s .f32) (j : s.Idx), maximumf a b j = max (a j : EReal) (b j) := fun _ _ _ _ => rfl
  exact hm _ _ _ j

/-- The largest of real scores is real. -/
theorem tops_real (s : FVec Ideal S32x2x4x2048x2064 .f32) (b : Fin 32) (g : Fin 2) (h : Fin 4) (t : Fin 2048) (x : Fin 2064 → ℝ)
    (hx : ∀ y, s (ix5 b g h t y) = (x y : EReal)) : ∃ μ : ℝ, tops s (ix4 b g h t) = (μ : EReal) := by
  have hr : S32x2x4x2048x2064.Reduces [4] S32x2x4x2048 := by decide
  obtain ⟨μ, hμ⟩ := reduce_real s (constant (F := Ideal) S_ .f32 0xFF800000#32) reducesTo_S32x2x4x2048x2064_S32x2x4x2048_d4 hr h_S_ (ix4 b g h t)
    bottom ⟨0, by decide⟩ (fun k => by
      rw [lift_score hr b g h t k, hx ⟨k.val, k.isLt⟩]
      exact ⟨EReal.coe_ne_top _, EReal.coe_ne_bot _⟩)
  exact ⟨μ, by rw [tops_apply, hμ, bottom, max_eq_right bot_le]⟩

theorem powers_apply (s : FVec Ideal S32x2x4x2048x2064 .f32) (b : Fin 32) (g : Fin 2) (h : Fin 4) (t : Fin 2048) (y : Fin 2064) :
    powers s (ix5 b g h t y) = Ideal.exp (s (ix5 b g h t y) - tops s (ix4 b g h t)) := by
  pointwise [powers]

theorem weights_apply (p : FVec Ideal S32x2x4x2048x2064 .f32) (b : Fin 32) (g : Fin 2) (h : Fin 4) (t : Fin 2048) (y : Fin 2064) :
    weights p (ix5 b g h t y) = Ideal.div (p (ix5 b g h t y)) (∑ z, p (ix5 b g h t z)) := by
  pointwise [weights]

theorem weighed_apply (v : FVec Ideal S32x2064x2x64 .f32) (p : FVec Ideal S32x2x4x2048x2064 .f32) (b : Fin 32) (g : Fin 2) (h : Fin 4) (t : Fin 2048) (e : Fin 64) :
    weighed v p (ix2 ⟨b.val * 2048 + t.val, by omega⟩ ⟨g.val * 256 + (h.val * 64 + e.val), by omega⟩)
      = ∑ y, v (ix4 b y g e) * p (ix5 b g h t y) := by
  pointwise [weighed]

theorem setIn_apply (o : FVec Ideal S132096x1536 .bf16) (y : FVec Ideal S65536x512 .bf16) (R : Fin 132096) (D : Fin 1536) :
    setIn o y (ix2 R D) = if h : (65536 ≤ R.val ∧ R.val < 131072) ∧ D.val < 512 then y (ix2 ⟨R.val - 65536, by omega⟩ ⟨D.val, h.2⟩) else o (ix2 R D) := by
  have ho : ∀ (R' : Fin 132096) (D' : Fin 1536), R'.val = R.val → D'.val = D.val → o (ix2 R' D') = o (ix2 R D) := fun R' D' hR hD => by
    rw [Fin.ext hR, Fin.ext hD]
  pointwise [setIn]
  by_cases h1 : R.val < 65536
  · rw [dif_pos h1, dif_neg (by omega)]
  rw [dif_neg h1]
  by_cases h2 : R.val - 65536 < 65536
  · rw [dif_pos h2]
    by_cases h3 : D.val < 512
    · rw [dif_pos h3, dif_pos (by omega)]
    · rw [dif_neg h3, dif_neg (by omega)]
      exact ho _ _ (show 65536 + (R.val - 65536) = R.val by omega) (show 512 + (D.val - 512) = D.val by omega)
  · rw [dif_neg h2, dif_neg (by omega)]
    exact ho _ _ (show 131072 + (R.val - 65536 - 65536) = R.val by omega) rfl

/-- An element of the group's rows where the scores are real: the values weighed by the softmax of the scores. -/
theorem attention_apply (q : FVec Ideal S132096x1536 .bf16) (k v : FVec Ideal S132096x384 .bf16) (b : Fin 32) (g : Fin 2) (h : Fin 4) (t : Fin 2048) (e : Fin 64)
    (s : Fin 2064 → ℝ) (hs : ∀ y, Att.dot (fun i => q (ix2 ⟨65536 + (b.val * 2048 + t.val), by omega⟩ ⟨g.val * 256 + (h.val * 64 + i.val), by omega⟩))
      (fun i => k (ix2 (Att.keyRow b y) ⟨g.val * 64 + i.val, by omega⟩)) = (s y : EReal)) :
    weighed (gathered v) (weights (powers (scores (queries q) (gathered k)))) (ix2 ⟨b.val * 2048 + t.val, by omega⟩ ⟨g.val * 256 + (h.val * 64 + e.val), by omega⟩)
      = Att.attended s (fun y => v (ix2 (Att.keyRow b y) ⟨g.val * 64 + e.val, by omega⟩)) := by
  have hx : ∀ y, scores (queries q) (gathered k) (ix5 b g h t y) = (s y : EReal) := fun y => by
    rw [scores_apply, ← hs y]
    simp only [queries_apply, gathered_apply]
  obtain ⟨μ, hμ⟩ := tops_real _ b g h t s hx
  rw [weighed_apply]
  simp only [weights_apply, powers_apply, gathered_apply, hx, hμ]
  exact Att.softmax_eq (by decide) s _ μ

theorem result_eq (m : (ℓ : Loc nD τ sig) → Buf (Elt Ideal) ℓ) (c : Dev nD) :
    res_main_v36 m c = setIn (m ((c.tc : Thread nD τ).loc main_arg3))
      (weighed (gathered (m ((c.tc : Thread nD τ).loc main_arg2)))
        (weights (powers (scores (queries (m ((c.tc : Thread nD τ).loc main_arg0))) (gathered (m ((c.tc : Thread nD τ).loc main_arg1))))))) := by
  rfl

end Cert.ReferenceGlobalIdeal.Value
-- ==== Proof.AttAlgebraic.lean ====
/- The attention of the second group: the kernel's array is the reference's where queries and keys are finite. -/
module

public import proofs.«01_k».proof.Defs
public import proofs.«01_k».proof.Proof.AttArray
public import proofs.«01_k».proof.Proof.AttReference
public import proofs.«01_k».proof.Proof.Gen.Pre_scores_finite

@[expose] public section

set_option maxRecDepth 16384

noncomputable section

open Idealize.ShloMosaic Idealize.SL.Sem

namespace Cert

/-- A comparison whose bit is one holds. -/
theorem holds_of_bit {p : Prop} [Decidable p] (h : BitVec.ofBool (decide p) = 1#1) : p := by
  by_contra hp
  simp [hp] at h

/-- A number whose magnitude is below infinity is real. -/
theorem real_of_abs {x : EReal} (h : max x (-x) < (⊤ : EReal)) : x ≠ ⊤ ∧ x ≠ ⊥ := by
  refine ⟨fun e => ?_, fun e => ?_⟩ <;> rw [e] at h <;> simp at h

namespace KernelGlobalIdeal.Gen

variable (m : (ℓ : Loc nD τ sig) → Buf (Elt Ideal) ℓ)

/-- An element a point leaves, in either key head's columns. -/
theorem left_apply (c : Dev nD) (t : Fin cfg0.N) (r : Fin 128) (g : Fin 2) (h : Fin 4) (e : Fin 64) (s : Fin 2064 → ℝ)
    (hs : ∀ y, Att.dot (fun i => m ((c.tc : Thread nD τ).loc main_arg0) (ix2 (qrow t r) ⟨g.val * 256 + (h.val * 64 + i.val), by omega⟩))
      (fun i => m ((c.tc : Thread nD τ).loc main_arg1) (ix2 (Att.keyRow (seq t) y) ⟨g.val * 64 + i.val, by omega⟩)) = (s y : EReal)) :
    outsAt0 m c t (ix2 r ⟨g.val * 256 + (h.val * 64 + e.val), by omega⟩)
      = Att.attended s (fun y => m ((c.tc : Thread nD τ).loc main_arg2) (ix2 (Att.keyRow (seq t) y) ⟨g.val * 64 + e.val, by omega⟩)) := by
  by_cases hg : g.val = 0
  · simp only [hg, Nat.zero_mul, Nat.zero_add] at hs ⊢
    exact low_apply m c t r h e s hs
  · have hg : g.val = 1 := by omega
    simp only [hg, Nat.one_mul] at hs ⊢
    exact high_apply m c t r h e s hs

end KernelGlobalIdeal.Gen

section

variable (m : (ℓ : Loc KernelGlobalIdeal.nD KernelGlobalIdeal.τ KernelGlobalIdeal.sig) → Buf (Elt Ideal) ℓ)
  (hpre : Pre_KernelGlobalIdeal_scores_finite (hPre_scores_finite := Pre_scores_finite.Gen.facts) m) (c : Dev KernelGlobalIdeal.nD)

include hpre

/-- The precondition read at one query. -/
theorem query_real (R : Fin 65536) (D : Fin 512) :
    m ((c.tc : Thread KernelGlobalIdeal.nD KernelGlobalIdeal.τ).loc KernelGlobalIdeal.main_arg0) (ix2 ⟨65536 + R.val, by omega⟩ ⟨D.val, by omega⟩) ≠ (⊤ : EReal)
      ∧ m ((c.tc : Thread KernelGlobalIdeal.nD KernelGlobalIdeal.τ).loc KernelGlobalIdeal.main_arg0) (ix2 ⟨65536 + R.val, by omega⟩ ⟨D.val, by omega⟩) ≠ (⊥ : EReal) := by
  have h := congrFun (hpre c).1 (ix2 R D)
  revert h
  pointwise [Pre_scores_finite.fn]
  exact fun h => real_of_abs (holds_of_bit h)

/-- The precondition read at one key of a token. -/
theorem key_real (R : Fin 65536) (D : Fin 128) :
    m ((c.tc : Thread KernelGlobalIdeal.nD KernelGlobalIdeal.τ).loc KernelGlobalIdeal.main_arg1) (ix2 ⟨65536 + R.val, by omega⟩ ⟨D.val, by omega⟩) ≠ (⊤ : EReal)
      ∧ m ((c.tc : Thread KernelGlobalIdeal.nD KernelGlobalIdeal.τ).loc KernelGlobalIdeal.main_arg1) (ix2 ⟨65536 + R.val, by omega⟩ ⟨D.val, by omega⟩) ≠ (⊥ : EReal) := by
  have h := congrFun (hpre c).2.1 (ix2 R D)
  revert h
  pointwise [Pre_scores_finite.fn]
  exact fun h => real_of_abs (holds_of_bit h)

/-- The precondition read at one key of a register. -/
theorem register_real (R : Fin 512) (D : Fin 128) :
    m ((c.tc : Thread KernelGlobalIdeal.nD KernelGlobalIdeal.τ).loc KernelGlobalIdeal.main_arg1) (ix2 ⟨131328 + R.val, by omega⟩ ⟨D.val, by omega⟩) ≠ (⊤ : EReal)
      ∧ m ((c.tc : Thread KernelGlobalIdeal.nD KernelGlobalIdeal.τ).loc KernelGlobalIdeal.main_arg1) (ix2 ⟨131328 + R.val, by omega⟩ ⟨D.val, by omega⟩) ≠ (⊥ : EReal) := by
  have h := congrFun (hpre c).2.2 (ix2 R D)
  revert h
  pointwise [Pre_scores_finite.fn]
  exact fun h => real_of_abs (holds_of_bit h)

/-- Every key of a sequence is real. -/
theorem keyRow_real (b : Fin 32) (y : Fin 2064) (D : Fin 128) :
    m ((c.tc : Thread KernelGlobalIdeal.nD KernelGlobalIdeal.τ).loc KernelGlobalIdeal.main_arg1) (ix2 (Att.keyRow b y) ⟨D.val, by omega⟩) ≠ (⊤ : EReal)
      ∧ m ((c.tc : Thread KernelGlobalIdeal.nD KernelGlobalIdeal.τ).loc KernelGlobalIdeal.main_arg1) (ix2 (Att.keyRow b y) ⟨D.val, by omega⟩) ≠ (⊥ : EReal) := by
  unfold Att.keyRow
  split
  · exact register_real m hpre c ⟨b.val * 16 + y.val, by omega⟩ D
  · exact key_real m hpre c ⟨b.val * 2048 + (y.val - 16), by omega⟩ D

/-- Every score of the group is real. -/
theorem score_exists (b : Fin 32) (t : Fin 2048) (g : Fin 2) (h : Fin 4) : ∃ s : Fin 2064 → ℝ, ∀ y,
    Att.dot (fun i => m ((c.tc : Thread KernelGlobalIdeal.nD KernelGlobalIdeal.τ).loc KernelGlobalIdeal.main_arg0) (ix2 ⟨65536 + (b.val * 2048 + t.val), by omega⟩ ⟨g.val * 256 + (h.val * 64 + i.val), by omega⟩))
      (fun i => m ((c.tc : Thread KernelGlobalIdeal.nD KernelGlobalIdeal.τ).loc KernelGlobalIdeal.main_arg1) (ix2 (Att.keyRow b y) ⟨g.val * 64 + i.val, by omega⟩)) = (s y : EReal) :=
  ⟨_, fun y => Att.score_real _ _ (fun i => query_real m hpre c ⟨b.val * 2048 + t.val, by omega⟩ ⟨g.val * 256 + (h.val * 64 + i.val), by omega⟩)
    (fun i => keyRow_real m hpre c b y ⟨g.val * 64 + i.val, by omega⟩)⟩

/-- An element of the group's rows and columns: the kernel's is the reference's. -/
theorem element_eq (b : Fin 32) (t : Fin 2048) (g : Fin 2) (h : Fin 4) (e : Fin 64) (R : Fin 132096) (D : Fin 1536)
    (hR : R.val = 65536 + (b.val * 2048 + t.val)) (hD : D.val = g.val * 256 + (h.val * 64 + e.val)) :
    KernelGlobalIdeal.Gen.written m c (ix2 R D)
      = ReferenceGlobalIdeal.Value.weighed (ReferenceGlobalIdeal.Value.gathered (m ((c.tc : Thread KernelGlobalIdeal.nD KernelGlobalIdeal.τ).loc KernelGlobalIdeal.main_arg2)))
          (ReferenceGlobalIdeal.Value.weights (ReferenceGlobalIdeal.Value.powers (ReferenceGlobalIdeal.Value.scores
            (ReferenceGlobalIdeal.Value.queries (m ((c.tc : Thread KernelGlobalIdeal.nD KernelGlobalIdeal.τ).loc KernelGlobalIdeal.main_arg0)))
            (ReferenceGlobalIdeal.Value.gathered (m ((c.tc : Thread KernelGlobalIdeal.nD KernelGlobalIdeal.τ).loc KernelGlobalIdeal.main_arg1))))))
          (ix2 ⟨b.val * 2048 + t.val, by omega⟩ ⟨g.val * 256 + (h.val * 64 + e.val), by omega⟩) := by
  obtain ⟨s, hs⟩ := score_exists m hpre c b t g h
  refine Eq.trans ?_ (ReferenceGlobalIdeal.Value.attention_apply _ _ _ b g h t e s hs).symm
  let p : Fin KernelGlobalIdeal.cfg0.N := ⟨b.val * 16 + t.val / 128, lt_of_lt_of_eq (by omega : _ < 512) KernelGlobalIdeal.Gen.N_0.symm⟩
  let r : Fin 128 := ⟨t.val % 128, by omega⟩
  have hb : KernelGlobalIdeal.Gen.seq p = b := Fin.ext (show (b.val * 16 + t.val / 128) / 16 = b.val by omega)
  have hq : KernelGlobalIdeal.Gen.qrow p r = ⟨65536 + (b.val * 2048 + t.val), by omega⟩ :=
    Fin.ext (show 65536 + ((b.val * 16 + t.val / 128) * 128 + t.val % 128) = 65536 + (b.val * 2048 + t.val) by omega)
  refine (KernelGlobalIdeal.Gen.written_at m c _ p (ix2 r ⟨g.val * 256 + (h.val * 64 + e.val), by omega⟩) ?_ hD).trans ?_
  · show R.val = 128 * (512 + (b.val * 16 + t.val / 128)) + t.val % 128
    omega
  · refine (KernelGlobalIdeal.Gen.left_apply m c p r g h e s (fun y => ?_)).trans ?_
    · rw [hb, hq]
      exact hs y
    · rw [hb]

end

theorem att_algebraic : algebraic_KernelGlobalIdeal_ReferenceGlobalIdeal_pre_scores_finite (hKernelGlobalIdeal := KernelGlobalIdeal.Gen.facts)
    (hReferenceGlobalIdeal := ReferenceGlobalIdeal.Gen.facts) (hPre_scores_finite := Pre_scores_finite.Gen.facts) := by
  intro m ρ m' ρ' hpre hagree
  refine ⟨_, KernelGlobalIdeal.Value.run_blocks (F := Ideal) m ρ, ?_⟩
  refine (θ_run ReferenceGlobalIdeal.defs _ _).mono (fun _ h c => ⟨?_, (h c).2⟩) (ReferenceGlobalIdeal.Value.run (F := Ideal) m' ρ')
  rw [(h c).1]
  obtain ⟨a0, a1, a2, a3⟩ := hagree c
  refine (ReferenceGlobalIdeal.Value.result_eq m' c).trans (Eq.trans ?_ (KernelGlobalIdeal.Gen.array_eq m c).symm)
  rw [a0, a1, a2, a3]
  funext j
  obtain ⟨R, D, rfl⟩ : ∃ (R : Fin 132096) (D : Fin 1536), j = ix2 R D := ⟨j 0, j 1, by funext a; match a with | ⟨0, _⟩ => rfl | ⟨1, _⟩ => rfl⟩
  rw [ReferenceGlobalIdeal.Value.setIn_apply]
  have hW : KernelGlobalIdeal.Gen.Written (ix2 R D) ↔ (65536 ≤ R.val ∧ R.val < 131072) ∧ D.val < 512 := by
    show ((512 ≤ R.val / 128 ∧ R.val / 128 < 1024) ∧ D.val / 512 = 0) ↔ _
    omega
  by_cases hw : (65536 ≤ R.val ∧ R.val < 131072) ∧ D.val < 512
  · rw [dif_pos hw, if_pos (hW.2 hw)]
    have key := element_eq m hpre c ⟨(R.val - 65536) / 2048, by omega⟩ ⟨(R.val - 65536) % 2048, by omega⟩ ⟨D.val / 256, by omega⟩ ⟨D.val / 64 % 4, by omega⟩
      ⟨D.val % 64, by omega⟩ R D (by dsimp only; omega) (by dsimp only; omega)
    refine Eq.trans ?_ key.symm
    refine congrArg _ ?_
    funext a
    match a with
    | ⟨0, _⟩ => exact Fin.ext (show R.val - 65536 = (R.val - 65536) / 2048 * 2048 + (R.val - 65536) % 2048 by omega)
    | ⟨1, _⟩ => exact Fin.ext (show D.val = D.val / 256 * 256 + (D.val / 64 % 4 * 64 + D.val % 64) by omega)
  · rw [dif_neg hw, if_neg (fun hh => hw (hW.1 hh)), KernelGlobalIdeal.Gen.entry]

end Cert
-- ==== Proof.MergeSpec.lean ====
/- The merge of the three branches as functions of extended reals: each branch's projection under its sigmoid gate
   (`gated`), the sum of the three through the output projection (`mixed`). -/
module

public import proofs.«01_k».proof.Proof.MoeSpec

@[expose] public section

noncomputable section

open Idealize.ShloMosaic

namespace Merge

/-- The value `b` under the sigmoid gate of `a`: `b / (1 + exp (-a))`. -/
def gated (a b : EReal) : EReal := Ideal.div b (1 + Ideal.exp (-a))

/-- The reference's spelling of `gated`: the logistic of `a` times the value. -/
theorem logistic_mul (a b : EReal) : Ideal.div 1 (1 + Ideal.exp (-a)) * b = gated a b := by
  unfold gated
  rw [mul_comm, Ideal.mul_one_div (Moe.one_add_exp_ne_zero _)]

/-- Branch `n` of a row at column `k`: `x` is the row of the stream, `o` the row of the mixers' outputs. -/
def branch (x : Fin 1024 → EReal) (o : Fin 1536 → EReal) (wg : Fin 1024 → Fin 3072 → EReal) (wb : Fin 3 → Fin 512 → Fin 1024 → EReal)
    (n : Fin 3) (k : Fin 1024) : EReal :=
  gated (∑ i, x i * wg i ⟨n.val * 1024 + k.val, by omega⟩) (∑ l : Fin 512, o ⟨n.val * 512 + l.val, by omega⟩ * wb n l k)

/-- The sum of the three branches through the output projection, at column `j`. -/
def mixed (x : Fin 1024 → EReal) (o : Fin 1536 → EReal) (wg : Fin 1024 → Fin 3072 → EReal) (wb : Fin 3 → Fin 512 → Fin 1024 → EReal)
    (wo : Fin 1024 → Fin 1024 → EReal) (j : Fin 1024) : EReal :=
  ∑ k, (∑ n, branch x o wg wb n k) * wo k j

end Merge
-- ==== Proof.MergePayload.lean ====
/- What the merge kernel's store of the normalized rows writes, element by element. -/
module

public import proofs.«01_k».proof.Proof.MergeSpec
public import proofs.«01_k».proof.Proof.Gen.KernelMergeIdeal.Frame
public import Idealize.ShloMosaic.Lib.Pipeline.ValueKit

@[expose] public section

set_option maxRecDepth 16384

noncomputable section

open Idealize.ShloMosaic

namespace Cert.KernelMergeIdeal.Gen

/-- The sum of the first two branches. -/
theorem pay3_apply (x : Vec Ideal S512x1024 .f32) (wg₀ wg₁ : Vec Ideal S1024x1024 .bf16) (o₀ o₁ : Vec Ideal S512x512 .bf16)
    (wb₀ wb₁ : Vec Ideal S1x512x1024 .bf16) (r : Fin 512) (k : Fin 1024) :
    k0_pay3 x wg₀ o₀ wb₀ wg₁ o₁ wb₁ (ix2 r k)
      = Merge.gated (∑ i : Fin 1024, x (ix2 r i) * wg₀ (ix2 i k)) (∑ l : Fin 512, o₀ (ix2 r l) * wb₀ (ix3 0 l k))
        + Merge.gated (∑ i : Fin 1024, x (ix2 r i) * wg₁ (ix2 i k)) (∑ l : Fin 512, o₁ (ix2 r l) * wb₁ (ix3 0 l k)) := by
  pointwise [k0_pay3, k0_pay2]
  simp only [zero_sub]
  rfl

/-- The third gate's product. -/
theorem pay4_apply (x : Vec Ideal S512x1024 .f32) (wg : Vec Ideal S1024x1024 .bf16) (r : Fin 512) (k : Fin 1024) :
    k0_pay4 x wg (ix2 r k) = ∑ i : Fin 1024, x (ix2 r i) * wg (ix2 i k) := by
  pointwise [k0_pay4, k0_pay2]

/-- The stored rows: the layer norm of the residual and the mixed branches. -/
theorem pay8_apply (x : Vec Ideal S512x1024 .f32) (two three : FVec Ideal S512x1024 .f32) (o : Vec Ideal S512x512 .bf16)
    (wb : Vec Ideal S1x512x1024 .bf16) (wo : Vec Ideal S1024x1024 .bf16) (gain bias : Vec Ideal S1x1024 .f32) (r : Fin 512) (d : Fin 1024) :
    k0_pay8 (k0_pay5 bias) (k0_pay6 x two three o wb wo) (k0_pay7 gain) (ix2 r d)
      = Moe.normalized (Ideal.ofBits .f32 0x44800000#32) (Ideal.ofBits .f32 0x3727C5AC#32)
          (fun j => Ideal.ofBits .f32 0x3FD744FD#32 * x (ix2 r j)
            + ∑ k : Fin 1024, (two (ix2 r k) + Merge.gated (three (ix2 r k)) (∑ l : Fin 512, o (ix2 r l) * wb (ix3 0 l k))) * wo (ix2 k j))
          (fun k => gain (ix2 0 k)) (fun k => bias (ix2 0 k)) d := by
  pointwise [k0_pay8, k0_pay5, k0_pay6, k0_pay7]
  simp only [zero_sub]
  rfl

end Cert.KernelMergeIdeal.Gen
-- ==== Proof.MergeKernel.lean ====
/- The array of the merge kernel: row block `t` of 512 rows is what point `t` stores, over its blocks of the call's
   arguments. -/
module

public import proofs.«01_k».proof.Proof.MergePayload
public import proofs.«01_k».proof.Proof.Gen.KernelMergeIdeal.Value
public import Idealize.ShloMosaic.Lib.Pipeline.ValueKit.Held

@[expose] public section

set_option maxRecDepth 16384

noncomputable section

open Idealize.ShloMosaic

namespace Cert.KernelMergeIdeal.Gen

/-- The printed index maps over the grid: the rows go by blocks of 512, the weights come whole. -/
theorem idx (t : Fin cfg0.N) : win0_0.index t = ![t.val, 0] ∧ win0_1.index t = ![t.val, 0] ∧ win0_2.index t = ![0, 0]
    ∧ win0_3.index t = ![0, 0, 0] ∧ win0_4.index t = ![0, 0] ∧ win0_5.index t = ![0, 0] ∧ win0_6.index t = ![0, 0]
    ∧ win0_10.index t = ![t.val, 0] :=
  (by decide +kernel : ∀ t : Fin grid0.N, win0_0.index t = ![t.val, 0] ∧ win0_1.index t = ![t.val, 0] ∧ win0_2.index t = ![0, 0]
    ∧ win0_3.index t = ![0, 0, 0] ∧ win0_4.index t = ![0, 0] ∧ win0_5.index t = ![0, 0] ∧ win0_6.index t = ![0, 0]
    ∧ win0_10.index t = ![t.val, 0]) t

theorem lt_N (t : Fin cfg0.N) : t.val < 258 := lt_of_lt_of_eq t.isLt N_0

/-- Row `r` of the block of point `t`. -/
def row (t : Fin cfg0.N) (r : Fin 512) : Fin 132096 := ⟨t.val * 512 + r.val, by have := lt_N t; omega⟩

variable (m : (ℓ : Loc nD τ sig) → Buf (Elt Ideal) ℓ)

theorem blk_h (c : Dev nD) (t : Fin cfg0.N) (r : Fin 512) (i : Fin 1024) :
    iblk m c 0 t (ix2 r i) = m ((c.tc : Thread nD τ).loc main_arg0) (ix2 (row t r) i) := by
  unfold row
  blk_point [iblk, V, idx t]

theorem blk_o (c : Dev nD) (t : Fin cfg0.N) (r : Fin 512) (l : Fin 1536) :
    iblk m c 1 t (ix2 r l) = m ((c.tc : Thread nD τ).loc main_arg1) (ix2 (row t r) l) := by
  unfold row
  blk_point [iblk, V, idx t]

theorem blk_wg (c : Dev nD) (t : Fin cfg0.N) (i : Fin 1024) (l : Fin 3072) :
    iblk m c 2 t (ix2 i l) = m ((c.tc : Thread nD τ).loc main_arg2) (ix2 i ⟨2304 + l.val, by omega⟩) := by
  blk_point [iblk, V, idx t]

theorem blk_wb (c : Dev nD) (t : Fin cfg0.N) (n : Fin 3) (l : Fin 512) (k : Fin 1024) :
    iblk m c 3 t (ix3 n l k) = m ((c.tc : Thread nD τ).loc main_arg3) (ix3 n l k) := by
  blk_point [iblk, V, idx t]

theorem blk_wo (c : Dev nD) (t : Fin cfg0.N) (k j : Fin 1024) :
    iblk m c 4 t (ix2 k j) = m ((c.tc : Thread nD τ).loc main_arg4) (ix2 k j) := by
  blk_point [iblk, V, idx t]

theorem blk_gain (c : Dev nD) (t : Fin cfg0.N) (k : Fin 1024) :
    iblk m c 5 t (ix2 0 k) = m ((c.tc : Thread nD τ).loc main_arg5) (ix1 k) := by
  blk_point [iblk, V, idx t]

theorem blk_bias (c : Dev nD) (t : Fin cfg0.N) (k : Fin 1024) :
    iblk m c 6 t (ix2 0 k) = m ((c.tc : Thread nD τ).loc main_arg6) (ix1 k) := by
  blk_point [iblk, V, idx t]

/-- A load of 1024 columns of the gates' weights. -/
theorem ld_wg (w : Vec Ideal S1024x3072 .bf16) (n : ℕ) (hn : n ≤ 2048) (inb : ∀ a, (![0, n] : Fin 2 → ℕ) a + S1024x1024.size a ≤ S1024x3072.size a)
    (i k : Fin 1024) : View.ld w (Rect.unit ![0, n] S1024x1024.size inb) (ix2 i k) = w (ix2 i ⟨n + k.val, by omega⟩) := by
  refine congrArg w (funext fun a => Fin.ext ?_)
  match a with
  | ⟨0, _⟩ => show 0 + 1 * i.val = i.val; omega
  | ⟨1, _⟩ => show n + 1 * k.val = n + k.val; omega

/-- A load of one mixer's 512 columns. -/
theorem ld_o (o : Vec Ideal S512x1536 .bf16) (n : ℕ) (hn : n ≤ 1024) (inb : ∀ a, (![0, n] : Fin 2 → ℕ) a + S512x512.size a ≤ S512x1536.size a)
    (r l : Fin 512) : View.ld o (Rect.unit ![0, n] S512x512.size inb) (ix2 r l) = o (ix2 r ⟨n + l.val, by omega⟩) := by
  refine congrArg o (funext fun a => Fin.ext ?_)
  match a with
  | ⟨0, _⟩ => show 0 + 1 * r.val = r.val; omega
  | ⟨1, _⟩ => show n + 1 * l.val = n + l.val; omega

/-- A load of one branch's weights. -/
theorem ld_wb (w : Vec Ideal S3x512x1024 .bf16) (n : Fin 3) (inb : ∀ a, (![n.val, 0, 0] : Fin 3 → ℕ) a + S1x512x1024.size a ≤ S3x512x1024.size a)
    (l : Fin 512) (k : Fin 1024) : View.ld w (Rect.unit ![n.val, 0, 0] S1x512x1024.size inb) (ix3 0 l k) = w (ix3 n l k) := by
  refine congrArg w (funext fun a => Fin.ext ?_)
  match a with
  | ⟨0, _⟩ => exact Nat.add_zero _
  | ⟨1, _⟩ => show 0 + 1 * l.val = l.val; omega
  | ⟨2, _⟩ => show 0 + 1 * k.val = k.val; omega

/-- A load of a whole array of two axes. -/
theorem ld_all {e : EltTy} {a b : ℕ} (x : Vec Ideal ⟨2, ![a, b]⟩ e)
    (inb : ∀ q, (![0, 0] : Fin 2 → ℕ) q + (⟨2, ![a, b]⟩ : Shape).size q ≤ (⟨2, ![a, b]⟩ : Shape).size q) (i : Fin a) (j : Fin b) :
    View.ld x (Rect.unit ![0, 0] (⟨2, ![a, b]⟩ : Shape).size inb) (ix2 i j) = x (ix2 i j) := by
  refine congrArg x (funext fun q => Fin.ext ?_)
  match q with
  | ⟨0, _⟩ => show 0 + 1 * i.val = i.val; omega
  | ⟨1, _⟩ => show 0 + 1 * j.val = j.val; omega

/-- The stored block over the blocks that come in, element by element. -/
theorem out_apply (x : Vec Ideal S512x1024 .f32) (o : Vec Ideal S512x1536 .bf16) (wg : Vec Ideal S1024x3072 .bf16) (wb : Vec Ideal S3x512x1024 .bf16)
    (wo : Vec Ideal S1024x1024 .bf16) (gain bias : Vec Ideal S1x1024 .f32) (x7 x8 : Vec Ideal S64x1024 .bf16) (x9 : Vec Ideal S64x1 .f32)
    (r : Fin 512) (d : Fin 1024) :
    out0_10 x o wg wb wo gain bias x7 x8 x9 (ix2 r d)
      = Moe.normalized (Ideal.ofBits .f32 0x44800000#32) (Ideal.ofBits .f32 0x3727C5AC#32)
          (fun j => Ideal.ofBits .f32 0x3FD744FD#32 * x (ix2 r j)
            + Merge.mixed (fun i => x (ix2 r i)) (fun l => o (ix2 r l)) (fun i l => wg (ix2 i l)) (fun n l k => wb (ix3 n l k)) (fun k j => wo (ix2 k j)) j)
          (fun k => gain (ix2 0 k)) (fun k => bias (ix2 0 k)) d := by
  have h : out0_10 x o wg wb wo gain bias x7 x8 x9
      = k0_pay8 (k0_pay111 x o wg wb wo gain bias x7 x8 x9) (k0_pay112 x o wg wb wo gain bias x7 x8 x9) (k0_pay113 x o wg wb wo gain bias x7 x8 x9) := by
    unfold out0_10
    frame_out
  have hx := ld_all x inb_S512x1024_S512x1024_0_0
  have hwo := ld_all wo inb_S1024x1024_S1024x1024_0_0
  have hgain := ld_all gain inb_S1x1024_S1x1024_0_0
  have hbias := ld_all bias inb_S1x1024_S1x1024_0_0
  have hwg₀ : ∀ i k : Fin 1024, View.ld wg r0_1 (ix2 i k) = wg (ix2 i ⟨(0 : Fin 3).val * 1024 + k.val, by omega⟩) :=
    ld_wg wg 0 (by omega) _
  have hwg₁ : ∀ i k : Fin 1024, View.ld wg r0_4 (ix2 i k) = wg (ix2 i ⟨(1 : Fin 3).val * 1024 + k.val, by omega⟩) :=
    ld_wg wg 1024 (by omega) _
  have hwg₂ : ∀ i k : Fin 1024, View.ld wg r0_7 (ix2 i k) = wg (ix2 i ⟨(2 : Fin 3).val * 1024 + k.val, by omega⟩) :=
    ld_wg wg 2048 (by omega) _
  have ho₀ : ∀ r l : Fin 512, View.ld o r0_2 (ix2 r l) = o (ix2 r ⟨(0 : Fin 3).val * 512 + l.val, by omega⟩) :=
    ld_o o 0 (by omega) _
  have ho₁ : ∀ r l : Fin 512, View.ld o r0_5 (ix2 r l) = o (ix2 r ⟨(1 : Fin 3).val * 512 + l.val, by omega⟩) :=
    ld_o o 512 (by omega) _
  have ho₂ : ∀ r l : Fin 512, View.ld o r0_8 (ix2 r l) = o (ix2 r ⟨(2 : Fin 3).val * 512 + l.val, by omega⟩) :=
    ld_o o 1024 (by omega) _
  have hwb₀ : ∀ (l : Fin 512) (k : Fin 1024), View.ld wb r0_3 (ix3 0 l k) = wb (ix3 0 l k) := ld_wb wb 0 _
  have hwb₁ : ∀ (l : Fin 512) (k : Fin 1024), View.ld wb r0_6 (ix3 0 l k) = wb (ix3 1 l k) := ld_wb wb 1 _
  have hwb₂ : ∀ (l : Fin 512) (k : Fin 1024), View.ld wb r0_9 (ix3 0 l k) = wb (ix3 2 l k) := ld_wb wb 2 _
  rw [h]
  unfold k0_pay111 k0_pay112 k0_pay113
  rw [pay8_apply]
  unfold Merge.mixed Merge.branch
  simp only [pay3_apply, pay4_apply, Fin.sum_univ_three]
  simp only [hx, hwo, hgain, hbias, hwg₀, hwg₁, hwg₂, ho₀, ho₁, ho₂, hwb₀, hwb₁, hwb₂]

/-- The array's value at an index. -/
def value (c : Dev nD) (R : Fin 132096) (d : Fin 1024) : EReal :=
  Moe.normalized (Ideal.ofBits .f32 0x44800000#32) (Ideal.ofBits .f32 0x3727C5AC#32)
    (fun j => Ideal.ofBits .f32 0x3FD744FD#32 * m ((c.tc : Thread nD τ).loc main_arg0) (ix2 R j)
      + Merge.mixed (fun i => m ((c.tc : Thread nD τ).loc main_arg0) (ix2 R i)) (fun l => m ((c.tc : Thread nD τ).loc main_arg1) (ix2 R l))
          (fun i l => m ((c.tc : Thread nD τ).loc main_arg2) (ix2 i ⟨2304 + l.val, by omega⟩))
          (fun n l k => m ((c.tc : Thread nD τ).loc main_arg3) (ix3 n l k)) (fun k j => m ((c.tc : Thread nD τ).loc main_arg4) (ix2 k j)) j)
    (fun k => m ((c.tc : Thread nD τ).loc main_arg5) (ix1 k)) (fun k => m ((c.tc : Thread nD τ).loc main_arg6) (ix1 k)) d

/-- The whole array is made of the blocks the points store. -/
theorem array_eq (c : Dev nD) : (dats m 0 c).arrAt 10 cfg0.N = fun i => value m c (i 0) (i 1) := by
  refine (dats m 0 c).arrAt_eq_of_covers 10 _ (by decide +kernel) fun t hf y => ?_
  obtain ⟨r, d, rfl⟩ : ∃ (r : Fin 512) (d : Fin 1024), y = ix2 r d := ⟨y 0, y 1, by funext a; match a with | ⟨0, _⟩ => rfl | ⟨1, _⟩ => rfl⟩
  have e0 : ((((cfg0.win 10).blk t).view.emb (ix2 r d)) 0) = row t r := Fin.ext (by
    unfold row
    blk_simp [idx t])
  have e1 : ((((cfg0.win 10).blk t).view.emb (ix2 r d)) 1) = d := Fin.ext (by
    blk_simp [idx t])
  refine Eq.trans ?_ (congrArg₂ (value m c) e0 e1).symm
  blk_simp
  rw [after0_10, out_apply]
  simp only [blk_h, blk_o, blk_wg, blk_wb, blk_wo, blk_gain, blk_bias]
  rfl

end Cert.KernelMergeIdeal.Gen
-- ==== Proof.MergeReference.lean ====
/- The reference of the merge, element by element. -/
module

public import proofs.«01_k».proof.Proof.MergeSpec
public import proofs.«01_k».proof.Proof.Gen.ReferenceMergeIdeal.Run

@[expose] public section

set_option maxRecDepth 16384

noncomputable section

open Idealize.ShloMosaic
open Cert.ReferenceMergeIdeal.Gen

namespace Cert.ReferenceMergeIdeal.Value

/-- The three branches under their gates. -/
def branches (h : FVec Ideal S132096x1024 .f32) (o : FVec Ideal S132096x1536 .bf16) (w : FVec Ideal S1024x5376 .f32)
    (wb : FVec Ideal S3x512x1024 .f32) : FVec Ideal S132096x3x1024 .f32 :=
  mulf (Host.divf (broadcastInDim S132096x3x1024 ![] bcast_S_S132096x3x1024 (constant S_ .f32 0x3F800000#32)) (addf (broadcastInDim S132096x3x1024 ![] bcast_S_S132096x3x1024 (constant S_ .f32 0x3F800000#32)) (Host.exp (Host.negf (shapeCast _ (Host.dotGeneral dot_S132096x1024_S1024x3072_S132096x3072_1_0_0_1_n_n none h (extractStridedSlice S1024x3072 ![0, 2304] w slices_S1024x5376_S1024x3072_0_2304)) shapeCasts_S132096x3072_S132096x3x1024))))) (transpose S132096x3x1024 [2, 0, 1] (Host.dotGeneral dot_S3x512x1024_S132096x3x512_S3x1024x132096_1_2_2_0_0_1 none wb (shapeCast _ (extf .f32 o bitsLt_bf16_f32) shapeCasts_S132096x1536_S132096x3x512)) transposes_S3x1024x132096_S132096x3x1024_2_0_1)

/-- The residual stream before the norm. -/
def stream (h : FVec Ideal S132096x1024 .f32) (b : FVec Ideal S132096x3x1024 .f32) (wo : FVec Ideal S1024x1024 .f32) : FVec Ideal S132096x1024 .f32 :=
  addf (mulf (broadcastInDim S132096x1024 ![] bcast_S_S132096x1024 (constant S_ .f32 0x3FD744FD#32)) h) (Host.dotGeneral dot_S132096x1024_S1024x1024_S132096x1024_1_0_0_1_n_n none (Host.reduceAdd b (constant S_ .f32 0x00000000#32) reducesTo_S132096x3x1024_S132096x1024_d1 h_S_) wo)

/-- The layer norm. -/
def norm (z : FVec Ideal S132096x1024 .f32) (gain bias : FVec Ideal S1024 .f32) : FVec Ideal S132096x1024 .f32 :=
  addf (mulf (mulf (subf z (broadcastInDim S132096x1024 ![0, 1] bcast_S132096x1_S132096x1024_0_1 (Host.divf (broadcastInDim S132096x1 ![0] bcast_S132096_S132096x1_0 (Host.reduceAdd z (constant S_ .f32 0x00000000#32) reducesTo_S132096x1024_S132096_d1 h_S_)) (broadcastInDim S132096x1 ![] bcast_S_S132096x1 (constant S_ .f32 0x44800000#32))))) (broadcastInDim S132096x1024 ![0, 1] bcast_S132096x1_S132096x1024_0_1 (Host.rsqrt (addf (Host.divf (broadcastInDim S132096x1 ![0] bcast_S132096_S132096x1_0 (Host.reduceAdd (mulf (subf z (broadcastInDim S132096x1024 ![0, 1] bcast_S132096x1_S132096x1024_0_1 (Host.divf (broadcastInDim S132096x1 ![0] bcast_S132096_S132096x1_0 (Host.reduceAdd z (constant S_ .f32 0x00000000#32) reducesTo_S132096x1024_S132096_d1 h_S_)) (broadcastInDim S132096x1 ![] bcast_S_S132096x1 (constant S_ .f32 0x44800000#32))))) (subf z (broadcastInDim S132096x1024 ![0, 1] bcast_S132096x1_S132096x1024_0_1 (Host.divf (broadcastInDim S132096x1 ![0] bcast_S132096_S132096x1_0 (Host.reduceAdd z (constant S_ .f32 0x00000000#32) reducesTo_S132096x1024_S132096_d1 h_S_)) (broadcastInDim S132096x1 ![] bcast_S_S132096x1 (constant S_ .f32 0x44800000#32)))))) (constant S_ .f32 0x00000000#32) reducesTo_S132096x1024_S132096_d1 h_S_)) (broadcastInDim S132096x1 ![] bcast_S_S132096x1 (constant S_ .f32 0x44800000#32))) (broadcastInDim S132096x1 ![] bcast_S_S132096x1 (constant S_ .f32 0x3727C5AC#32)))))) (broadcastInDim S132096x1024 ![0, 1] bcast_S1x1024_S132096x1024_0_1 (broadcastInDim S1x1024 ![1] bcast_S1024_S1x1024_1 gain))) (broadcastInDim S132096x1024 ![0, 1] bcast_S1x1024_S132096x1024_0_1 (broadcastInDim S1x1024 ![1] bcast_S1024_S1x1024_1 bias))

/-- Element by element: one branch under its gate. -/
theorem branches_apply (h : FVec Ideal S132096x1024 .f32) (o : FVec Ideal S132096x1536 .bf16) (w : FVec Ideal S1024x5376 .f32)
    (wb : FVec Ideal S3x512x1024 .f32) (r : Fin 132096) (n : Fin 3) (k : Fin 1024) :
    branches h o w wb (ix3 r n k) = Merge.branch (fun i => h (ix2 r i)) (fun l => o (ix2 r l)) (fun i l => w (ix2 i ⟨2304 + l.val, by omega⟩))
      (fun n l k => wb (ix3 n l k)) n k := by
  pointwise [branches]
  simp only [mul_comm (wb _), Merge.logistic_mul]
  rfl

/-- Element by element: the residual and the sum of the branches through the output projection. -/
theorem stream_apply (h : FVec Ideal S132096x1024 .f32) (b : FVec Ideal S132096x3x1024 .f32) (wo : FVec Ideal S1024x1024 .f32)
    (r : Fin 132096) (d : Fin 1024) :
    stream h b wo (ix2 r d) = Ideal.ofBits .f32 0x3FD744FD#32 * h (ix2 r d) + ∑ k : Fin 1024, (∑ n : Fin 3, b (ix3 r n k)) * wo (ix2 k d) := by
  pointwise [stream]

/-- Element by element: the layer norm of a row. -/
theorem norm_apply (z : FVec Ideal S132096x1024 .f32) (gain bias : FVec Ideal S1024 .f32) (r : Fin 132096) (d : Fin 1024) :
    norm z gain bias (ix2 r d) = Moe.normalized (Ideal.ofBits .f32 0x44800000#32) (Ideal.ofBits .f32 0x3727C5AC#32)
      (fun j => z (ix2 r j)) (fun k => gain (ix1 k)) (fun k => bias (ix1 k)) d := by
  pointwise [norm]
  rfl

/-- The reference's array: the layer norm of the residual and the mixed branches. -/
theorem result_apply (m : (ℓ : Loc nD τ sig) → Buf (Elt Ideal) ℓ) (c : Dev nD) (r : Fin 132096) (d : Fin 1024) :
    res_main_v40 m c (ix2 r d)
      = Moe.normalized (Ideal.ofBits .f32 0x44800000#32) (Ideal.ofBits .f32 0x3727C5AC#32)
          (fun j => Ideal.ofBits .f32 0x3FD744FD#32 * m ((c.tc : Thread nD τ).loc main_arg0) (ix2 r j)
            + Merge.mixed (fun i => m ((c.tc : Thread nD τ).loc main_arg0) (ix2 r i)) (fun l => m ((c.tc : Thread nD τ).loc main_arg1) (ix2 r l))
                (fun i l => m ((c.tc : Thread nD τ).loc main_arg2) (ix2 i ⟨2304 + l.val, by omega⟩))
                (fun n l k => m ((c.tc : Thread nD τ).loc main_arg3) (ix3 n l k)) (fun k j => m ((c.tc : Thread nD τ).loc main_arg4) (ix2 k j)) j)
          (fun k => m ((c.tc : Thread nD τ).loc main_arg5) (ix1 k)) (fun k => m ((c.tc : Thread nD τ).loc main_arg6) (ix1 k)) d := by
  have h : res_main_v40 m c = norm (stream (m ((c.tc : Thread nD τ).loc main_arg0))
      (branches (m ((c.tc : Thread nD τ).loc main_arg0)) (m ((c.tc : Thread nD τ).loc main_arg1)) (m ((c.tc : Thread nD τ).loc main_arg2)) (m ((c.tc : Thread nD τ).loc main_arg3)))
      (m ((c.tc : Thread nD τ).loc main_arg4))) (m ((c.tc : Thread nD τ).loc main_arg5)) (m ((c.tc : Thread nD τ).loc main_arg6)) := rfl
  rw [h, norm_apply]
  simp only [stream_apply, branches_apply]
  rfl

end Cert.ReferenceMergeIdeal.Value
-- ==== Proof.MergeAlgebraic.lean ====
/- The merge: the kernel's rows after the norm are the reference's. -/
module

public import proofs.«01_k».proof.Defs
public import proofs.«01_k».proof.Proof.MergeKernel
public import proofs.«01_k».proof.Proof.MergeReference

@[expose] public section

set_option maxRecDepth 16384

noncomputable section

open Idealize.ShloMosaic Idealize.SL.Sem

namespace Cert

theorem merge_algebraic : algebraic_KernelMergeIdeal_ReferenceMergeIdeal (hKernelMergeIdeal := KernelMergeIdeal.Gen.facts)
    (hReferenceMergeIdeal := ReferenceMergeIdeal.Gen.facts) := by
  intro m ρ m' ρ' _ hagree
  refine ⟨_, (θ_run KernelMergeIdeal.defs _ _).mono (fun _ h c => ⟨(h c).1, (h c).2.2⟩) (KernelMergeIdeal.Value.run_blocks (F := Ideal) m ρ), ?_⟩
  refine (θ_run ReferenceMergeIdeal.defs _ _).mono (fun _ h c => ⟨?_, (h c).2⟩) (ReferenceMergeIdeal.Value.run (F := Ideal) m' ρ')
  rw [(h c).1]
  obtain ⟨a0, a1, a2, a3, a4, a5, a6, a7⟩ := hagree c
  funext j
  obtain ⟨R, d, rfl⟩ : ∃ (R : Fin 132096) (d : Fin 1024), j = ix2 R d := ⟨j 0, j 1, by funext a; match a with | ⟨0, _⟩ => rfl | ⟨1, _⟩ => rfl⟩
  refine (ReferenceMergeIdeal.Value.result_apply m' c R d).trans ((?_ : _ = _).trans (congrFun (KernelMergeIdeal.Gen.array_eq m c) (ix2 R d)).symm)
  unfold KernelMergeIdeal.Gen.value
  simp only [a0, a1, a2, a3, a4, a5, a6]
  rfl

end Cert
-- ==== Proof.FirstSpec.lean ====
/- The first group's sweep: 16 meta keys and eight chunks of 512, and where its keys lie in the arrays. -/
module

public import proofs.«01_k».proof.Proof.AttSpec

@[expose] public section

noncomputable section

open Idealize.ShloMosaic

namespace Att

/-- A sum over 4112 keys: 16 of them, then eight chunks of 512. -/
theorem sum_keys_first {α : Type} [AddCommMonoid α] (f : Fin 4112 → α) :
    ∑ y, f y = (((((((∑ x : Fin 16, f ⟨x.val, by omega⟩ + ∑ x : Fin 512, f ⟨16 + (0 + x.val), by omega⟩) + ∑ x : Fin 512, f ⟨16 + (512 + x.val), by omega⟩) + ∑ x : Fin 512, f ⟨16 + (1024 + x.val), by omega⟩)
      + ∑ x : Fin 512, f ⟨16 + (1536 + x.val), by omega⟩) + ∑ x : Fin 512, f ⟨16 + (2048 + x.val), by omega⟩)
      + ∑ x : Fin 512, f ⟨16 + (2560 + x.val), by omega⟩) + ∑ x : Fin 512, f ⟨16 + (3072 + x.val), by omega⟩)
      + ∑ x : Fin 512, f ⟨16 + (3584 + x.val), by omega⟩ := by
  rw [show ∑ y, f y = ∑ y : Fin ((((((((16 + 512) + 512) + 512) + 512) + 512) + 512) + 512) + 512), f y from rfl]
  iterate 8 rw [Fin.sum_univ_add]
  refine congrArg₂ (· + ·) (congrArg₂ (· + ·) (congrArg₂ (· + ·) (congrArg₂ (· + ·) (congrArg₂ (· + ·) (congrArg₂ (· + ·) (congrArg₂ (· + ·) (congrArg₂ (· + ·) rfl ?_) ?_) ?_) ?_) ?_) ?_) ?_) ?_ <;>
    refine Finset.sum_congr rfl fun x _ => congrArg f (Fin.ext ?_) <;> simp <;> omega

/-- The whole sweep: 16 keys, then eight chunks of 512, with real scores `s` and values `w`. -/
theorem sweep_holds_first (s : Fin 4112 → ℝ) (w : Fin 4112 → EReal) :
    Holds (∑ y, Real.exp (s y)) (∑ y, ((Real.exp (s y) : ℝ) : EReal) * w y)
      (more (fun x : Fin 512 => (s ⟨16 + (3584 + x.val), by omega⟩ : EReal)) (fun x => w ⟨16 + (3584 + x.val), by omega⟩)
        (more (fun x : Fin 512 => (s ⟨16 + (3072 + x.val), by omega⟩ : EReal)) (fun x => w ⟨16 + (3072 + x.val), by omega⟩)
          (more (fun x : Fin 512 => (s ⟨16 + (2560 + x.val), by omega⟩ : EReal)) (fun x => w ⟨16 + (2560 + x.val), by omega⟩)
            (more (fun x : Fin 512 => (s ⟨16 + (2048 + x.val), by omega⟩ : EReal)) (fun x => w ⟨16 + (2048 + x.val), by omega⟩)
              (more (fun x : Fin 512 => (s ⟨16 + (1536 + x.val), by omega⟩ : EReal)) (fun x => w ⟨16 + (1536 + x.val), by omega⟩)
                (more (fun x : Fin 512 => (s ⟨16 + (1024 + x.val), by omega⟩ : EReal)) (fun x => w ⟨16 + (1024 + x.val), by omega⟩)
                  (more (fun x : Fin 512 => (s ⟨16 + (512 + x.val), by omega⟩ : EReal)) (fun x => w ⟨16 + (512 + x.val), by omega⟩)
                    (more (fun x : Fin 512 => (s ⟨16 + (0 + x.val), by omega⟩ : EReal)) (fun x => w ⟨16 + (0 + x.val), by omega⟩)
                      (first (fun x : Fin 16 => (s ⟨x.val, by omega⟩ : EReal)) (fun x => w ⟨x.val, by omega⟩)))))))))) := by
  rw [sum_keys_first, sum_keys_first]
  have hp : 0 < 512 := by omega
  exact more_holds hp _ _ (more_holds hp _ _ (more_holds hp _ _ (more_holds hp _ _ (more_holds hp _ _ (more_holds hp _ _ (more_holds hp _ _ (more_holds hp _ _ (first_holds (by omega) _ _))))))))

/-- The row of the arrays at which a sequence's key `y` lies: the meta keys first, then the tokens. -/
def keyRowFirst (b : Fin 16) (y : Fin 4112) : Fin 132096 :=
  if h : y.val < 16 then ⟨131072 + (b.val * 16 + y.val), by omega⟩ else ⟨b.val * 4096 + (y.val - 16), by omega⟩

end Att
-- ==== Proof.FirstPoint.lean ====
/- What one grid point of the first group's attention leaves: the same triples as the second group's (`AttPayload`,
   `AttPoint`), after eight chunks of keys. -/
module

public import proofs.«01_k».proof.Proof.AttPoint
public import proofs.«01_k».proof.Proof.Gen.KernelFirstIdeal.Frame
public import Idealize.ShloMosaic.Lib.Pipeline.ValueKit
public import Idealize.ShloMosaic.Lib.Pipeline.ReadBack

@[expose] public section

set_option maxRecDepth 16384

noncomputable section

open Idealize.ShloMosaic

namespace Cert.KernelFirstIdeal.Gen

open KernelGlobalIdeal.Gen (Triple next start0 start1 queries1 heads0 heads1)

/-- The 512 rows of a sequence's keys or values from row `o`. -/
def chunk (x : Vec Ideal S4096x128 .bf16) (o : ℕ) (inb : ∀ a, (![o, 0] : Fin 2 → ℕ) a + (![512, 128] : Fin 2 → ℕ) a ≤ S4096x128.size a) :
    Vec Ideal S512x128 .bf16 :=
  View.ld x (Rect.unit ![o, 0] ![512, 128] inb)

/-- The eight chunks of the keys of a sequence, one after the other. -/
def chunks (q : FVec Ideal S512x128 .bf16) (k v : Vec Ideal S4096x128 .bf16) (p : Triple) : Triple :=
  next q (chunk k 3584 inb_S4096x128_S512x128_3584_0) (chunk v 3584 inb_S4096x128_S512x128_3584_0)
    (next q (chunk k 3072 inb_S4096x128_S512x128_3072_0) (chunk v 3072 inb_S4096x128_S512x128_3072_0)
      (next q (chunk k 2560 inb_S4096x128_S512x128_2560_0) (chunk v 2560 inb_S4096x128_S512x128_2560_0)
        (next q (chunk k 2048 inb_S4096x128_S512x128_2048_0) (chunk v 2048 inb_S4096x128_S512x128_2048_0)
          (next q (chunk k 1536 inb_S4096x128_S512x128_1536_0) (chunk v 1536 inb_S4096x128_S512x128_1536_0)
            (next q (chunk k 1024 inb_S4096x128_S512x128_1024_0) (chunk v 1024 inb_S4096x128_S512x128_1024_0)
              (next q (chunk k 512 inb_S4096x128_S512x128_512_0) (chunk v 512 inb_S4096x128_S512x128_512_0)
                (next q (chunk k 0 inb_S4096x128_S512x128_0_0) (chunk v 0 inb_S4096x128_S512x128_0_0) p)))))))

variable (m : (ℓ : Loc nD τ sig) → Buf (Elt Ideal) ℓ)

/-- The triples of a point. -/
def triple0 (c : Dev nD) (t : Fin cfg0.N) : Triple :=
  chunks (KernelGlobalIdeal.Gen.k0_pay4 (iblk m c 0 t)) (X0_1 m c t) (X0_2 m c t) (start0 (iblk m c 0 t) (iblk m c 3 t) (iblk m c 4 t))
def triple1 (c : Dev nD) (t : Fin cfg0.N) : Triple :=
  chunks (queries1 (iblk m c 0 t)) (X0_1 m c t) (X0_2 m c t) (start1 (iblk m c 0 t) (iblk m c 3 t) (iblk m c 4 t))

/-- The two stores of a point. -/
theorem left (c : Dev nD) (t : Fin cfg0.N) : outsAt0 m c t
    = View.canon [⟨Rect.unit ![0, 256] ![128, 256] inb_S128x512_S128x256_0_256, heads1 (triple1 m c t)⟩,
        ⟨Rect.unit ![0, 0] ![128, 256] inb_S128x512_S128x256_0_0, heads0 (triple0 m c t)⟩] := by
  unfold outsAt0
  frame_open
  simp (disch := decide) only [↓ View.readCov_skip, ↓ View.readCov_cons_toLoadRect, ↓ View.readCov_fill]
  frame_out
  rfl

end Cert.KernelFirstIdeal.Gen
-- ==== Proof.FirstBlocks.lean ====
/- The blocks the points of the first group's attention read and the rows they write, as rows of the call's arguments. -/
module

public import proofs.«01_k».proof.Proof.FirstPoint
public import Idealize.ShloMosaic.Lib.Pipeline.ValueKit.Held

@[expose] public section

set_option maxRecDepth 16384

noncomputable section

open Idealize.ShloMosaic

namespace Cert.KernelFirstIdeal.Gen

/-- The printed index maps over the grid: 32 row blocks per sequence. -/
theorem idx (t : Fin cfg0.N) : win0_0.index t = ![t.val, 0] ∧ win0_1.index t = ![t.val / 32, 0]
    ∧ win0_2.index t = ![t.val / 32, 0] ∧ win0_3.index t = ![8192 + t.val / 32, 0] ∧ win0_4.index t = ![8192 + t.val / 32, 0]
    ∧ win0_5.index t = ![t.val, 0] :=
  (by decide +kernel : ∀ t : Fin grid0.N, win0_0.index t = ![t.val, 0] ∧ win0_1.index t = ![t.val / 32, 0]
    ∧ win0_2.index t = ![t.val / 32, 0] ∧ win0_3.index t = ![8192 + t.val / 32, 0] ∧ win0_4.index t = ![8192 + t.val / 32, 0]
    ∧ win0_5.index t = ![t.val, 0]) t

theorem lt_N (t : Fin cfg0.N) : t.val < 512 := lt_of_lt_of_eq t.isLt N_0

/-- Query row `r` of point `t`. -/
def qrow (t : Fin cfg0.N) (r : Fin 128) : Fin 132096 := ⟨t.val * 128 + r.val, by have := lt_N t; omega⟩

/-- Key `x` of the sequence of point `t`. -/
def krow (t : Fin cfg0.N) (x : Fin 4096) : Fin 132096 := ⟨t.val / 32 * 4096 + x.val, by have := lt_N t; omega⟩

/-- Meta key `x` of the sequence of point `t`. -/
def mrow (t : Fin cfg0.N) (x : Fin 16) : Fin 132096 := ⟨131072 + (t.val / 32 * 16 + x.val), by have := lt_N t; omega⟩

variable (m : (ℓ : Loc nD τ sig) → Buf (Elt Ideal) ℓ)

theorem blk_q (c : Dev nD) (t : Fin cfg0.N) (r : Fin 128) (d : Fin 512) :
    iblk m c 0 t (ix2 r d) = m ((c.tc : Thread nD τ).loc main_arg0) (ix2 (qrow t r) ⟨d.val, by omega⟩) := by
  rw [← V_main_arg0 m c]
  unfold qrow
  blk_point [iblk, idx t]

theorem blk_km (c : Dev nD) (t : Fin cfg0.N) (x : Fin 16) (l : Fin 128) :
    iblk m c 3 t (ix2 x l) = m ((c.tc : Thread nD τ).loc main_arg1) (ix2 (mrow t x) ⟨l.val, by omega⟩) := by
  rw [← V_main_arg1 m c]
  unfold mrow
  blk_point [iblk, idx t]

theorem blk_vm (c : Dev nD) (t : Fin cfg0.N) (x : Fin 16) (l : Fin 128) :
    iblk m c 4 t (ix2 x l) = m ((c.tc : Thread nD τ).loc main_arg2) (ix2 (mrow t x) ⟨l.val, by omega⟩) := by
  rw [← V_main_arg2 m c]
  unfold mrow
  blk_point [iblk, idx t]

theorem blk_k (c : Dev nD) (t : Fin cfg0.N) (x : Fin 4096) (l : Fin 128) :
    X0_1 m c t (ix2 x l) = m ((c.tc : Thread nD τ).loc main_arg1) (ix2 (krow t x) ⟨l.val, by omega⟩) := by
  rw [← V_main_arg1 m c]
  unfold krow X0_1 Pipeline.Window.fill
  rw [dif_pos (moved0_1 t _)]
  blk_point [iblk, idx t]

theorem blk_v (c : Dev nD) (t : Fin cfg0.N) (x : Fin 4096) (l : Fin 128) :
    X0_2 m c t (ix2 x l) = m ((c.tc : Thread nD τ).loc main_arg2) (ix2 (krow t x) ⟨l.val, by omega⟩) := by
  rw [← V_main_arg2 m c]
  unfold krow X0_2 Pipeline.Window.fill
  rw [dif_pos (moved0_2 t _)]
  blk_point [iblk, idx t]

/-- A chunk's row is a row of the whole. -/
theorem chunk_apply (x : Vec Ideal S4096x128 .bf16) (o : ℕ) (inb) (ho : o ≤ 3584) (r : Fin 512) (l : Fin 128) :
    chunk x o inb (ix2 r l) = x (ix2 ⟨o + r.val, by omega⟩ l) := by
  refine congrArg x (funext fun a => Fin.ext ?_)
  match a with
  | ⟨0, _⟩ => show o + 1 * r.val = o + r.val; omega
  | ⟨1, _⟩ => show 0 + 1 * l.val = l.val; omega

/-- The written blocks are the first 512 row blocks of the first column block. -/
theorem covers : win0_5.CoversWhere (fun β => β (0 : Fin 2) < 512 ∧ β (1 : Fin 2) = 0) := by
  decide +kernel

end Cert.KernelFirstIdeal.Gen
-- ==== Proof.FirstKernel.lean ====
/- What the points of the first group's attention leave, element by element. -/
module

public import proofs.«01_k».proof.Proof.FirstSpec
public import proofs.«01_k».proof.Proof.FirstBlocks
public import proofs.«01_k».proof.Proof.AttHeads

@[expose] public section

set_option maxRecDepth 16384

noncomputable section

open Idealize.ShloMosaic

namespace Cert.KernelFirstIdeal.Gen

open Att (keyRowFirst)
open KernelGlobalIdeal.Gen (Triple next heads0 heads1 score score0 score1 start0_at start1_at next_at heads0_apply heads1_apply)

/-- A score against a chunk's key is the score against the key of the whole. -/
theorem score_chunk (q : FVec Ideal S512x128 .bf16) (k : Vec Ideal S4096x128 .bf16) (o : ℕ) (inb) (ho : o ≤ 3584) (r : Fin 512) (x : Fin 512) :
    score (n := 512) q (chunk k o inb) r x = score (n := 4096) q k r ⟨o + x.val, by omega⟩ := by
  unfold score
  simp only [chunk_apply k o inb ho]

/-- After the meta keys and the eight chunks the triple holds the sums over all 4112 keys. -/
theorem chunks_holds (q : FVec Ideal S512x128 .bf16) (k v : Vec Ideal S4096x128 .bf16) (p : Triple) (r : Fin 512) (d : Fin 128)
    (s : Fin 4112 → ℝ) (w : Fin 4112 → EReal)
    (hp : p.at r d = Att.first (fun x : Fin 16 => (s ⟨x.val, by omega⟩ : EReal)) (fun x => w ⟨x.val, by omega⟩))
    (hs : ∀ x : Fin 4096, score (n := 4096) q k r x = (s ⟨16 + x.val, by omega⟩ : EReal)) (hv : ∀ x : Fin 4096, v (ix2 x d) = w ⟨16 + x.val, by omega⟩) :
    Att.Holds (∑ y, Real.exp (s y)) (∑ y, ((Real.exp (s y) : ℝ) : EReal) * w y) ((chunks q k v p).at r d) := by
  have hsc : ∀ (o : ℕ) (inb) (ho : o ≤ 3584), score (n := 512) q (chunk k o inb) r = fun x => (s ⟨16 + (o + x.val), by omega⟩ : EReal) :=
    fun o inb ho => funext fun x => (score_chunk q k o inb ho r x).trans (hs _)
  have hvc : ∀ (o : ℕ) (inb) (ho : o ≤ 3584), (fun x : Fin 512 => (chunk v o inb (ix2 x d) : EReal)) = fun x => w ⟨16 + (o + x.val), by omega⟩ :=
    fun o inb ho => funext fun x => (chunk_apply v o inb ho x d).trans (hv _)
  unfold chunks
  iterate 8 rw [next_at]
  rw [hp, hsc 0 _ (by omega), hsc 512 _ (by omega), hsc 1024 _ (by omega), hsc 1536 _ (by omega),
    hsc 2048 _ (by omega), hsc 2560 _ (by omega), hsc 3072 _ (by omega), hsc 3584 _ (by omega),
    hvc 0 _ (by omega), hvc 512 _ (by omega), hvc 1024 _ (by omega), hvc 1536 _ (by omega),
    hvc 2048 _ (by omega), hvc 2560 _ (by omega), hvc 3072 _ (by omega), hvc 3584 _ (by omega)]
  exact Att.sweep_holds_first s w

variable (m : (ℓ : Loc nD τ sig) → Buf (Elt Ideal) ℓ)

/-- The sequence of a point. -/
def seq (t : Fin cfg0.N) : Fin 16 := ⟨t.val / 32, by have := lt_N t; omega⟩

theorem keyRow_meta (t : Fin cfg0.N) (x : Fin 16) : keyRowFirst (seq t) ⟨x.val, by omega⟩ = mrow t x := by
  unfold keyRowFirst
  rw [dif_pos x.isLt]
  rfl

theorem keyRow_key (t : Fin cfg0.N) (x : Fin 4096) : keyRowFirst (seq t) ⟨16 + x.val, by omega⟩ = krow t x := by
  unfold keyRowFirst
  rw [dif_neg (by dsimp only; omega)]
  exact Fin.ext (by show t.val / 32 * 4096 + (16 + x.val - 16) = t.val / 32 * 4096 + x.val; omega)

/-- The first 256 columns a point leaves. -/
theorem left_low (c : Dev nD) (t : Fin cfg0.N) (r : Fin 128) (d : Fin 256) :
    outsAt0 m c t (ix2 r ⟨d.val, by omega⟩) = heads0 (triple0 m c t) (ix2 r d) := by
  rw [left]
  rw [View.canon_cons_of_not_mem]
  · have he : (ix2 r ⟨d.val, by omega⟩ : S128x512.Idx) = (Rect.unit ![0, 0] ![128, 256] inb_S128x512_S128x256_0_0).emb (ix2 r d) := by
      funext a
      match a with
      | ⟨0, _⟩ => exact Fin.ext (by show r.val = 0 + 1 * r.val; omega)
      | ⟨1, _⟩ => exact Fin.ext (by show d.val = 0 + 1 * d.val; omega)
    rw [he]
    exact View.canon_cons_emb _ _ _ _
  · intro hm
    obtain ⟨x, hx⟩ := (Rect.unit (s := S128x512) ![0, 256] ![128, 256] inb_S128x512_S128x256_0_256).exists_idx_of_mem hm
    have h1 : 256 + 1 * (x 1).val = d.val := congrArg (fun i : S128x512.Idx => (i 1).val) hx
    omega

/-- The last 256. -/
theorem left_high (c : Dev nD) (t : Fin cfg0.N) (r : Fin 128) (d : Fin 256) :
    outsAt0 m c t (ix2 r ⟨256 + d.val, by omega⟩) = heads1 (triple1 m c t) (ix2 r d) := by
  rw [left]
  have he : (ix2 r ⟨256 + d.val, by omega⟩ : S128x512.Idx) = (Rect.unit ![0, 256] ![128, 256] inb_S128x512_S128x256_0_256).emb (ix2 r d) := by
    funext a
    match a with
    | ⟨0, _⟩ => exact Fin.ext (by show r.val = 0 + 1 * r.val; omega)
    | ⟨1, _⟩ => exact Fin.ext (by show 256 + d.val = 256 + 1 * d.val; omega)
  rw [he]
  exact View.canon_cons_emb _ _ _ _

/-- An element of the first key head's columns, where the scores of its row are real. -/
theorem low_apply (c : Dev nD) (t : Fin cfg0.N) (r : Fin 128) (h : Fin 4) (e : Fin 64) (s : Fin 4112 → ℝ)
    (hs : ∀ y, Att.dot (fun i => m ((c.tc : Thread nD τ).loc main_arg0) (ix2 (qrow t r) ⟨h.val * 64 + i.val, by omega⟩))
      (fun i => m ((c.tc : Thread nD τ).loc main_arg1) (ix2 (keyRowFirst (seq t) y) ⟨i.val, by omega⟩)) = (s y : EReal)) :
    outsAt0 m c t (ix2 r ⟨h.val * 64 + e.val, by omega⟩)
      = Att.attended s (fun y => m ((c.tc : Thread nD τ).loc main_arg2) (ix2 (keyRowFirst (seq t) y) ⟨e.val, by omega⟩)) := by
  refine (left_low m c t r ⟨h.val * 64 + e.val, by omega⟩).trans ((heads0_apply _ r h e).trans (Att.div_holds (Att.sum_exp_pos s) ?_))
  unfold triple0
  refine chunks_holds _ _ _ _ _ _ s _ ?_ (fun x => ?_) (fun x => ?_)
  · rw [start0_at]
    refine congrArg₂ Att.first (funext fun x => ?_) (funext fun x => ?_)
    · rw [score0, ← hs, keyRow_meta]
      unfold Att.dot
      simp only [blk_q, blk_km]
    · rw [keyRow_meta]
      exact blk_vm m c t x _
  · rw [score0, ← hs, keyRow_key]
    unfold Att.dot
    simp only [blk_q, blk_k]
  · rw [keyRow_key]
    exact blk_v m c t x _

/-- An element of the second key head's columns. -/
theorem high_apply (c : Dev nD) (t : Fin cfg0.N) (r : Fin 128) (h : Fin 4) (e : Fin 64) (s : Fin 4112 → ℝ)
    (hs : ∀ y, Att.dot (fun i => m ((c.tc : Thread nD τ).loc main_arg0) (ix2 (qrow t r) ⟨256 + (h.val * 64 + i.val), by omega⟩))
      (fun i => m ((c.tc : Thread nD τ).loc main_arg1) (ix2 (keyRowFirst (seq t) y) ⟨64 + i.val, by omega⟩)) = (s y : EReal)) :
    outsAt0 m c t (ix2 r ⟨256 + (h.val * 64 + e.val), by omega⟩)
      = Att.attended s (fun y => m ((c.tc : Thread nD τ).loc main_arg2) (ix2 (keyRowFirst (seq t) y) ⟨64 + e.val, by omega⟩)) := by
  refine (left_high m c t r ⟨h.val * 64 + e.val, by omega⟩).trans ((heads1_apply _ r h e).trans (Att.div_holds (Att.sum_exp_pos s) ?_))
  unfold triple1
  refine chunks_holds _ _ _ _ _ _ s _ ?_ (fun x => ?_) (fun x => ?_)
  · rw [start1_at]
    refine congrArg₂ Att.first (funext fun x => ?_) (funext fun x => ?_)
    · rw [score1, ← hs, keyRow_meta]
      unfold Att.dot
      simp only [blk_q, blk_km]
    · rw [keyRow_meta]
      exact blk_vm m c t x _
  · rw [score1, ← hs, keyRow_key]
    unfold Att.dot
    simp only [blk_q, blk_k]
  · rw [keyRow_key]
    exact blk_v m c t x _

end Cert.KernelFirstIdeal.Gen
-- ==== Proof.FirstArray.lean ====
/- The array after the first group's attention: on the rows and columns that the call writes, what its points leave. -/
module

public import proofs.«01_k».proof.Proof.FirstKernel
public import Idealize.ShloMosaic.Lib.Pipeline.ValueKit.Partial

@[expose] public section

set_option maxRecDepth 16384

noncomputable section

open Idealize.ShloMosaic

namespace Cert.KernelFirstIdeal.Gen

variable (m : (ℓ : Loc nD τ sig) → Buf (Elt Ideal) ℓ)

/-- The written part. -/
def Written (i : S132096x1536.Idx) : Prop := (i 0).val / 128 < 512 ∧ (i 1).val / 512 = 0

instance : DecidablePred Written := fun _ => inferInstanceAs (Decidable (_ ∧ _))

/-- What the points leave, at an index of the array. -/
def written (c : Dev nD) (i : S132096x1536.Idx) : Elt Ideal .bf16 :=
  if h : (i 0).val / 128 < cfg0.N then
    outsAt0 m c ⟨(i 0).val / 128, h⟩ (ix2 ⟨(i 0).val % 128, by omega⟩ ⟨(i 1).val % 512, by omega⟩)
  else (0 : EReal)

theorem written_at (c : Dev nD) (i : S132096x1536.Idx) (t : Fin cfg0.N) (y : S128x512.Idx)
    (e0 : (i 0).val = 128 * t.val + (y 0).val) (e1 : (i 1).val = (y 1).val) :
    written m c i = outsAt0 m c t y := by
  have b0 : (y 0).val < 128 := (y 0).isLt
  have b1 : (y 1).val < 512 := (y 1).isLt
  have ht : (i 0).val / 128 = t.val := by omega
  unfold written
  rw [dif_pos (by rw [ht]; exact t.isLt)]
  have hy : (ix2 ⟨(i 0).val % 128, by omega⟩ ⟨(i 1).val % 512, by omega⟩ : S128x512.Idx) = y := by
    funext a
    match a with
    | ⟨0, _⟩ => exact Fin.ext (show (i 0).val % 128 = (y 0).val by omega)
    | ⟨1, _⟩ => exact Fin.ext (show (i 1).val % 512 = (y 1).val by omega)
  rw [hy]
  exact congrArg (fun t => outsAt0 m c t y) (Fin.ext ht)

theorem array_eq (c : Dev nD) :
    (dats m 0 c).arrAt 5 cfg0.N = fun i => if Written i then written m c i else (dats m 0 c).A 5 i := by
  refine (dats m 0 c).arrAt_eq_of_coversWhere 5 (written m c) (fun β => β (0 : Fin 2) < 512 ∧ β (1 : Fin 2) = 0) covers
    (fun t hf y => ?_) (fun j => Iff.rfl)
  have e0 : ((((cfg0.win 5).blk t).view.emb y) 0).val = 128 * t.val + (y 0).val := by
    blk_simp [idx t]
    omega
  have e1 : ((((cfg0.win 5).blk t).view.emb y) 1).val = (y 1).val := by
    blk_simp [idx t]
  refine Eq.trans ?_ (written_at m c _ t y e0 e1).symm
  blk_simp
  rw [after0_5]

end Cert.KernelFirstIdeal.Gen
-- ==== Proof.FirstRun.lean ====
/- The run of the first group's attention: the result is the rows and columns that the host slices out of the call's array. -/
module

public import proofs.«01_k».proof.Proof.FirstArray

@[expose] public section

set_option maxRecDepth 16384

noncomputable section

open Idealize.ShloMosaic Idealize.SL.Sem

namespace Cert.KernelFirstIdeal.Gen

variable (m : (ℓ : Loc nD τ sig) → Buf (Elt Ideal) ℓ) (ρ : Dev nD → PrngReg)

/-- The rows and columns that the call writes, of an array. -/
def sliced (x : FVec Ideal S132096x1536 .bf16) : FVec Ideal S65536x512 .bf16 :=
  extractStridedSlice S65536x512 ![0, 0] x slices_S132096x1536_S65536x512_0_0

theorem sliced_apply (x : FVec Ideal S132096x1536 .bf16) (R : Fin 65536) (D : Fin 512) :
    sliced x (ix2 R D) = x (ix2 ⟨R.val, by omega⟩ ⟨D.val, by omega⟩) := by
  pointwise [sliced]

/-- The host's slice reads the array as the last point leaves it. -/
theorem sliced_eq (c : Dev nD) :
    Pipeline.afterTail₀ cfgs (dats m) 0 (V0 m) [hostOps1] c main_v1 = sliced ((dats m 0 c).arrAt 5 cfg0.N) :=
  congrArg sliced ((dats m 0 c).withArrays_arrAt sharedIn0 (V0 m c) (A_eq m c) 5)

theorem run_sliced : θ_run defs (onTc (τ := τ) (main (F := Ideal))) ⟨m, fun _ => 0, ρ⟩ fun r => ∀ c : Dev nD,
    r.2.mem ((c.tc : Thread nD τ).loc main_v1) = sliced ((dats m 0 c).arrAt 5 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  have hv : θ_run defs (onTc (τ := τ) (main (F := Ideal))) ⟨m, fun _ => 0, ρ⟩ fun r => ∀ c : Dev nD,
      r.2.mem ((c.tc : Thread nD τ).loc main_v1) = sliced ((dats m 0 c).arrAt 5 cfg0.N) :=
    (θ_run defs _ _).mono
      (fun _ h c => ((h c).2 main_v1 (Pipeline.mem_restRefs_of main_v1 (by decide) (by decide))).trans (sliced_eq m c)) (run_main m ρ)
  exact (θ_run defs _ _).mono (fun _ h c => ⟨h.1 c, h.2 c⟩) (θ_run_and hv (unchanged m ρ))

end Cert.KernelFirstIdeal.Gen
-- ==== Proof.FirstReference.lean ====
/- The reference's attention of the first group, element by element. -/
module

public import proofs.«01_k».proof.Proof.FirstSpec
public import proofs.«01_k».proof.Proof.AttReference
public import proofs.«01_k».proof.Proof.Gen.ReferenceFirstIdeal.Run

@[expose] public section

set_option maxRecDepth 16384

noncomputable section

open Idealize.ShloMosaic
open Cert.ReferenceFirstIdeal.Gen

namespace Cert.ReferenceFirstIdeal.Value

open ReferenceGlobalIdeal.Value (reduce_real bottom)

/-- The keys (or values) of every sequence, its registers before its tokens. -/
def gathered (x : FVec Ideal S132096x384 .bf16) : FVec Ideal S16x4112x2x64 .f32 :=
  concatenate S16x4112x2x64 1
    [⟨S16x16x2x64, shapeCast S16x16x2x64 (extractStridedSlice S256x128 ![131072, 0] (extf .f32 x bitsLt_bf16_f32) slices_S132096x384_S256x128_131072_0) shapeCasts_S256x128_S16x16x2x64⟩,
     ⟨S16x4096x2x64, shapeCast S16x4096x2x64 (extractStridedSlice S65536x128 ![0, 0] (extf .f32 x bitsLt_bf16_f32) slices_S132096x384_S65536x128_0_0) shapeCasts_S65536x128_S16x4096x2x64⟩]
    concatenates_S16x16x2x64_S16x4096x2x64_S16x4112x2x64_d1

/-- The queries by sequence, key head and head. -/
def queries (x : FVec Ideal S132096x1536 .bf16) : FVec Ideal S16x4096x2x4x64 .f32 :=
  shapeCast S16x4096x2x4x64 (extractStridedSlice S65536x512 ![0, 0] (extf .f32 x bitsLt_bf16_f32) slices_S132096x1536_S65536x512_0_0) shapeCasts_S65536x512_S16x4096x2x4x64

/-- Every query against every key. -/
def scores (q : FVec Ideal S16x4096x2x4x64 .f32) (k : FVec Ideal S16x4112x2x64 .f32) : FVec Ideal S16x2x4x4096x4112 .f32 :=
  transpose S16x2x4x4096x4112 [0, 1, 4, 3, 2] (Host.dotGeneral dot_S16x4112x2x64_S16x4096x2x4x64_S16x2x4112x4096x4_3_4_1_13_02_02 none k q) transposes_S16x2x4112x4096x4_S16x2x4x4096x4112_0_1_4_3_2

/-- The largest score of each query. -/
def tops (s : FVec Ideal S16x2x4x4096x4112 .f32) : FVec Ideal S16x2x4x4096 .f32 :=
  maximumf (broadcastInDim S16x2x4x4096 ![] bcast_S_S16x2x4x4096 (constant S_ .f32 0xFF800000#32))
    (Host.reduce FloatOps.maximumf s (constant S_ .f32 0xFF800000#32) reducesTo_S16x2x4x4096x4112_S16x2x4x4096_d4 h_S_)

/-- The exponentials of the scores above the largest. -/
def powers (s : FVec Ideal S16x2x4x4096x4112 .f32) : FVec Ideal S16x2x4x4096x4112 .f32 :=
  Host.exp (subf s (broadcastInDim S16x2x4x4096x4112 ![0, 1, 2, 3, 4] bcast_S16x2x4x4096x1_S16x2x4x4096x4112_0_1_2_3_4
    (broadcastInDim S16x2x4x4096x1 ![0, 1, 2, 3] bcast_S16x2x4x4096_S16x2x4x4096x1_0_1_2_3 (tops s))))

/-- The softmax of the scores. -/
def weights (p : FVec Ideal S16x2x4x4096x4112 .f32) : FVec Ideal S16x2x4x4096x4112 .f32 :=
  Host.divf p (broadcastInDim S16x2x4x4096x4112 ![0, 1, 2, 3, 4] bcast_S16x2x4x4096x1_S16x2x4x4096x4112_0_1_2_3_4
    (broadcastInDim S16x2x4x4096x1 ![0, 1, 2, 3] bcast_S16x2x4x4096_S16x2x4x4096x1_0_1_2_3
      (Host.reduceAdd p (constant S_ .f32 0x00000000#32) reducesTo_S16x2x4x4096x4112_S16x2x4x4096_d4 h_S_)))

/-- The values weighed, laid back out as rows of 512 columns. -/
def weighed (v : FVec Ideal S16x4112x2x64 .f32) (p : FVec Ideal S16x2x4x4096x4112 .f32) : FVec Ideal S65536x512 .bf16 :=
  truncf .bf16 (shapeCast S65536x512 (transpose S16x4096x2x4x64 [0, 4, 1, 3, 2]
    (Host.dotGeneral dot_S16x4112x2x64_S16x2x4x4096x4112_S16x2x64x4x4096_1_4_3_23_02_01 none v p)
    transposes_S16x2x64x4x4096_S16x4096x2x4x64_0_4_1_3_2) shapeCasts_S16x4096x2x4x64_S65536x512) bitsLt_bf16_f32

theorem gathered_apply (x : FVec Ideal S132096x384 .bf16) (b : Fin 16) (y : Fin 4112) (g : Fin 2) (e : Fin 64) :
    gathered x (ix4 b y g e) = x (ix2 (Att.keyRowFirst b y) ⟨g.val * 64 + e.val, by omega⟩) := by
  pointwise [gathered]
  unfold Att.keyRowFirst
  split <;> rfl

theorem queries_apply (x : FVec Ideal S132096x1536 .bf16) (b : Fin 16) (t : Fin 4096) (g : Fin 2) (h : Fin 4) (e : Fin 64) :
    queries x (ix5 b t g h e) = x (ix2 ⟨b.val * 4096 + t.val, by omega⟩ ⟨g.val * 256 + (h.val * 64 + e.val), by omega⟩) := by
  pointwise [queries]
  exact congrArg (fun d => x (ix2 _ d)) (Fin.ext (Nat.add_assoc _ _ _))

theorem scores_apply (q : FVec Ideal S16x4096x2x4x64 .f32) (k : FVec Ideal S16x4112x2x64 .f32) (b : Fin 16) (g : Fin 2) (h : Fin 4) (t : Fin 4096) (y : Fin 4112) :
    scores q k (ix5 b g h t y) = Att.dot (fun i => q (ix5 b t g h i)) (fun i => k (ix4 b y g i)) := by
  pointwise [scores]
  exact Finset.sum_congr rfl fun i _ => mul_comm _ _

/-- The indices reduced into one query's element are its scores. -/
theorem lift_score (h' : S16x2x4x4096x4112.Reduces [4] S16x2x4x4096) (b : Fin 16) (g : Fin 2) (h : Fin 4) (t : Fin 4096) (y : Fin (S16x2x4x4096x4112.size 4)) :
    h'.lift (ix4 b g h t) y = ix5 b g h t (⟨y.val, y.isLt⟩ : Fin 4112) := by
  funext a
  apply Fin.ext
  refine (h'.lift_val (ix4 b g h t) y a).trans ?_
  match a with
  | ⟨0, _⟩ => rfl
  | ⟨1, _⟩ => rfl
  | ⟨2, _⟩ => rfl
  | ⟨3, _⟩ => rfl
  | ⟨4, _⟩ => rfl

/-- The largest score and minus infinity, whichever is larger. -/
theorem tops_apply (s : FVec Ideal S16x2x4x4096x4112 .f32) (j : S16x2x4x4096.Idx) :
    tops s j = max (Ideal.ofBits FTy.f32 0xFF800000#32)
      (Host.reduce FloatOps.maximumf s (constant S_ .f32 0xFF800000#32) reducesTo_S16x2x4x4096x4112_S16x2x4x4096_d4 h_S_ j) := by
  unfold tops
  have hm : ∀ (s : Shape) (a b : FVec Ideal s .f32) (j : s.Idx), maximumf a b j = max (a j : EReal) (b j) := fun _ _ _ _ => rfl
  exact hm _ _ _ j

/-- The largest of real scores is real. -/
theorem tops_real (s : FVec Ideal S16x2x4x4096x4112 .f32) (b : Fin 16) (g : Fin 2) (h : Fin 4) (t : Fin 4096) (x : Fin 4112 → ℝ)
    (hx : ∀ y, s (ix5 b g h t y) = (x y : EReal)) : ∃ μ : ℝ, tops s (ix4 b g h t) = (μ : EReal) := by
  have hr : S16x2x4x4096x4112.Reduces [4] S16x2x4x4096 := by decide
  obtain ⟨μ, hμ⟩ := reduce_real s (constant (F := Ideal) S_ .f32 0xFF800000#32) reducesTo_S16x2x4x4096x4112_S16x2x4x4096_d4 hr h_S_ (ix4 b g h t)
    bottom ⟨0, by decide⟩ (fun k => by
      rw [lift_score hr b g h t k, hx ⟨k.val, k.isLt⟩]
      exact ⟨EReal.coe_ne_top _, EReal.coe_ne_bot _⟩)
  exact ⟨μ, by rw [tops_apply, hμ, bottom, max_eq_right bot_le]⟩

theorem powers_apply (s : FVec Ideal S16x2x4x4096x4112 .f32) (b : Fin 16) (g : Fin 2) (h : Fin 4) (t : Fin 4096) (y : Fin 4112) :
    powers s (ix5 b g h t y) = Ideal.exp (s (ix5 b g h t y) - tops s (ix4 b g h t)) := by
  pointwise [powers]

theorem weights_apply (p : FVec Ideal S16x2x4x4096x4112 .f32) (b : Fin 16) (g : Fin 2) (h : Fin 4) (t : Fin 4096) (y : Fin 4112) :
    weights p (ix5 b g h t y) = Ideal.div (p (ix5 b g h t y)) (∑ z, p (ix5 b g h t z)) := by
  pointwise [weights]

theorem weighed_apply (v : FVec Ideal S16x4112x2x64 .f32) (p : FVec Ideal S16x2x4x4096x4112 .f32) (b : Fin 16) (g : Fin 2) (h : Fin 4) (t : Fin 4096) (e : Fin 64) :
    weighed v p (ix2 ⟨b.val * 4096 + t.val, by omega⟩ ⟨g.val * 256 + (h.val * 64 + e.val), by omega⟩)
      = ∑ y, v (ix4 b y g e) * p (ix5 b g h t y) := by
  pointwise [weighed]

/-- An element of the group's rows where the scores are real: the values weighed by the softmax of the scores. -/
theorem attention_apply (q : FVec Ideal S132096x1536 .bf16) (k v : FVec Ideal S132096x384 .bf16) (b : Fin 16) (g : Fin 2) (h : Fin 4) (t : Fin 4096) (e : Fin 64)
    (s : Fin 4112 → ℝ) (hs : ∀ y, Att.dot (fun i => q (ix2 ⟨b.val * 4096 + t.val, by omega⟩ ⟨g.val * 256 + (h.val * 64 + i.val), by omega⟩))
      (fun i => k (ix2 (Att.keyRowFirst b y) ⟨g.val * 64 + i.val, by omega⟩)) = (s y : EReal)) :
    weighed (gathered v) (weights (powers (scores (queries q) (gathered k)))) (ix2 ⟨b.val * 4096 + t.val, by omega⟩ ⟨g.val * 256 + (h.val * 64 + e.val), by omega⟩)
      = Att.attended s (fun y => v (ix2 (Att.keyRowFirst b y) ⟨g.val * 64 + e.val, by omega⟩)) := by
  have hx : ∀ y, scores (queries q) (gathered k) (ix5 b g h t y) = (s y : EReal) := fun y => by
    rw [scores_apply, ← hs y]
    simp only [queries_apply, gathered_apply]
  obtain ⟨μ, hμ⟩ := tops_real _ b g h t s hx
  rw [weighed_apply]
  simp only [weights_apply, powers_apply, gathered_apply, hx, hμ]
  exact Att.softmax_eq (by decide) s _ μ

theorem result_eq (m : (ℓ : Loc nD τ sig) → Buf (Elt Ideal) ℓ) (c : Dev nD) :
    res_main_v31 m c = weighed (gathered (m ((c.tc : Thread nD τ).loc main_arg2)))
      (weights (powers (scores (queries (m ((c.tc : Thread nD τ).loc main_arg0))) (gathered (m ((c.tc : Thread nD τ).loc main_arg1)))))) := by
  rfl

end Cert.ReferenceFirstIdeal.Value
-- ==== Proof.FirstAlgebraic.lean ====
/- The attention of the first group: the kernel's rows are the reference's where queries and keys are finite. -/
module

public import proofs.«01_k».proof.Defs
public import proofs.«01_k».proof.Proof.AttAlgebraic
public import proofs.«01_k».proof.Proof.FirstRun
public import proofs.«01_k».proof.Proof.FirstReference
public import proofs.«01_k».proof.Proof.Gen.Pre_scores_finite_first

@[expose] public section

set_option maxRecDepth 16384

noncomputable section

open Idealize.ShloMosaic Idealize.SL.Sem

namespace Cert

namespace KernelFirstIdeal.Gen

variable (m : (ℓ : Loc nD τ sig) → Buf (Elt Ideal) ℓ)

/-- An element a point leaves, in either key head's columns. -/
theorem left_apply (c : Dev nD) (t : Fin cfg0.N) (r : Fin 128) (g : Fin 2) (h : Fin 4) (e : Fin 64) (s : Fin 4112 → ℝ)
    (hs : ∀ y, Att.dot (fun i => m ((c.tc : Thread nD τ).loc main_arg0) (ix2 (qrow t r) ⟨g.val * 256 + (h.val * 64 + i.val), by omega⟩))
      (fun i => m ((c.tc : Thread nD τ).loc main_arg1) (ix2 (Att.keyRowFirst (seq t) y) ⟨g.val * 64 + i.val, by omega⟩)) = (s y : EReal)) :
    outsAt0 m c t (ix2 r ⟨g.val * 256 + (h.val * 64 + e.val), by omega⟩)
      = Att.attended s (fun y => m ((c.tc : Thread nD τ).loc main_arg2) (ix2 (Att.keyRowFirst (seq t) y) ⟨g.val * 64 + e.val, by omega⟩)) := by
  by_cases hg : g.val = 0
  · simp only [hg, Nat.zero_mul, Nat.zero_add] at hs ⊢
    exact low_apply m c t r h e s hs
  · have hg : g.val = 1 := by omega
    simp only [hg, Nat.one_mul] at hs ⊢
    exact high_apply m c t r h e s hs

end KernelFirstIdeal.Gen

section

variable (m : (ℓ : Loc KernelFirstIdeal.nD KernelFirstIdeal.τ KernelFirstIdeal.sig) → Buf (Elt Ideal) ℓ)
  (hpre : Pre_KernelFirstIdeal_scores_finite_first (hPre_scores_finite_first := Pre_scores_finite_first.Gen.facts) m) (c : Dev KernelFirstIdeal.nD)

include hpre

/-- The precondition read at one query. -/
theorem first_query_real (R : Fin 65536) (D : Fin 512) :
    m ((c.tc : Thread KernelFirstIdeal.nD KernelFirstIdeal.τ).loc KernelFirstIdeal.main_arg0) (ix2 ⟨R.val, by omega⟩ ⟨D.val, by omega⟩) ≠ (⊤ : EReal)
      ∧ m ((c.tc : Thread KernelFirstIdeal.nD KernelFirstIdeal.τ).loc KernelFirstIdeal.main_arg0) (ix2 ⟨R.val, by omega⟩ ⟨D.val, by omega⟩) ≠ (⊥ : EReal) := by
  have h := congrFun (hpre c).1 (ix2 R D)
  revert h
  pointwise [Pre_scores_finite_first.fn]
  exact fun h => real_of_abs (holds_of_bit h)

/-- The precondition read at one key of a token. -/
theorem first_key_real (R : Fin 65536) (D : Fin 128) :
    m ((c.tc : Thread KernelFirstIdeal.nD KernelFirstIdeal.τ).loc KernelFirstIdeal.main_arg1) (ix2 ⟨R.val, by omega⟩ ⟨D.val, by omega⟩) ≠ (⊤ : EReal)
      ∧ m ((c.tc : Thread KernelFirstIdeal.nD KernelFirstIdeal.τ).loc KernelFirstIdeal.main_arg1) (ix2 ⟨R.val, by omega⟩ ⟨D.val, by omega⟩) ≠ (⊥ : EReal) := by
  have h := congrFun (hpre c).2.1 (ix2 R D)
  revert h
  pointwise [Pre_scores_finite_first.fn]
  exact fun h => real_of_abs (holds_of_bit h)

/-- The precondition read at one key of a register. -/
theorem first_register_real (R : Fin 256) (D : Fin 128) :
    m ((c.tc : Thread KernelFirstIdeal.nD KernelFirstIdeal.τ).loc KernelFirstIdeal.main_arg1) (ix2 ⟨131072 + R.val, by omega⟩ ⟨D.val, by omega⟩) ≠ (⊤ : EReal)
      ∧ m ((c.tc : Thread KernelFirstIdeal.nD KernelFirstIdeal.τ).loc KernelFirstIdeal.main_arg1) (ix2 ⟨131072 + R.val, by omega⟩ ⟨D.val, by omega⟩) ≠ (⊥ : EReal) := by
  have h := congrFun (hpre c).2.2 (ix2 R D)
  revert h
  pointwise [Pre_scores_finite_first.fn]
  exact fun h => real_of_abs (holds_of_bit h)

/-- Every key of a sequence is real. -/
theorem first_keyRow_real (b : Fin 16) (y : Fin 4112) (D : Fin 128) :
    m ((c.tc : Thread KernelFirstIdeal.nD KernelFirstIdeal.τ).loc KernelFirstIdeal.main_arg1) (ix2 (Att.keyRowFirst b y) ⟨D.val, by omega⟩) ≠ (⊤ : EReal)
      ∧ m ((c.tc : Thread KernelFirstIdeal.nD KernelFirstIdeal.τ).loc KernelFirstIdeal.main_arg1) (ix2 (Att.keyRowFirst b y) ⟨D.val, by omega⟩) ≠ (⊥ : EReal) := by
  unfold Att.keyRowFirst
  split
  · exact first_register_real m hpre c ⟨b.val * 16 + y.val, by omega⟩ D
  · exact first_key_real m hpre c ⟨b.val * 4096 + (y.val - 16), by omega⟩ D

/-- Every score of the group is real. -/
theorem first_score_exists (b : Fin 16) (t : Fin 4096) (g : Fin 2) (h : Fin 4) : ∃ s : Fin 4112 → ℝ, ∀ y,
    Att.dot (fun i => m ((c.tc : Thread KernelFirstIdeal.nD KernelFirstIdeal.τ).loc KernelFirstIdeal.main_arg0) (ix2 ⟨b.val * 4096 + t.val, by omega⟩ ⟨g.val * 256 + (h.val * 64 + i.val), by omega⟩))
      (fun i => m ((c.tc : Thread KernelFirstIdeal.nD KernelFirstIdeal.τ).loc KernelFirstIdeal.main_arg1) (ix2 (Att.keyRowFirst b y) ⟨g.val * 64 + i.val, by omega⟩)) = (s y : EReal) :=
  ⟨_, fun y => Att.score_real _ _ (fun i => first_query_real m hpre c ⟨b.val * 4096 + t.val, by omega⟩ ⟨g.val * 256 + (h.val * 64 + i.val), by omega⟩)
    (fun i => first_keyRow_real m hpre c b y ⟨g.val * 64 + i.val, by omega⟩)⟩

/-- An element of the group's rows and columns: the kernel's is the reference's. -/
theorem first_element_eq (b : Fin 16) (t : Fin 4096) (g : Fin 2) (h : Fin 4) (e : Fin 64) (R : Fin 132096) (D : Fin 1536)
    (hR : R.val = b.val * 4096 + t.val) (hD : D.val = g.val * 256 + (h.val * 64 + e.val)) :
    KernelFirstIdeal.Gen.written m c (ix2 R D)
      = ReferenceFirstIdeal.Value.weighed (ReferenceFirstIdeal.Value.gathered (m ((c.tc : Thread KernelFirstIdeal.nD KernelFirstIdeal.τ).loc KernelFirstIdeal.main_arg2)))
          (ReferenceFirstIdeal.Value.weights (ReferenceFirstIdeal.Value.powers (ReferenceFirstIdeal.Value.scores
            (ReferenceFirstIdeal.Value.queries (m ((c.tc : Thread KernelFirstIdeal.nD KernelFirstIdeal.τ).loc KernelFirstIdeal.main_arg0)))
            (ReferenceFirstIdeal.Value.gathered (m ((c.tc : Thread KernelFirstIdeal.nD KernelFirstIdeal.τ).loc KernelFirstIdeal.main_arg1))))))
          (ix2 ⟨b.val * 4096 + t.val, by omega⟩ ⟨g.val * 256 + (h.val * 64 + e.val), by omega⟩) := by
  obtain ⟨s, hs⟩ := first_score_exists m hpre c b t g h
  refine Eq.trans ?_ (ReferenceFirstIdeal.Value.attention_apply _ _ _ b g h t e s hs).symm
  let p : Fin KernelFirstIdeal.cfg0.N := ⟨b.val * 32 + t.val / 128, lt_of_lt_of_eq (by omega : _ < 512) KernelFirstIdeal.Gen.N_0.symm⟩
  let r : Fin 128 := ⟨t.val % 128, by omega⟩
  have hb : KernelFirstIdeal.Gen.seq p = b := Fin.ext (show (b.val * 32 + t.val / 128) / 32 = b.val by omega)
  have hq : KernelFirstIdeal.Gen.qrow p r = ⟨b.val * 4096 + t.val, by omega⟩ :=
    Fin.ext (show (b.val * 32 + t.val / 128) * 128 + t.val % 128 = b.val * 4096 + t.val by omega)
  refine (KernelFirstIdeal.Gen.written_at m c _ p (ix2 r ⟨g.val * 256 + (h.val * 64 + e.val), by omega⟩) ?_ hD).trans ?_
  · show R.val = 128 * (b.val * 32 + t.val / 128) + t.val % 128
    omega
  · refine (KernelFirstIdeal.Gen.left_apply m c p r g h e s (fun y => ?_)).trans ?_
    · rw [hb, hq]
      exact hs y
    · rw [hb]

end

theorem first_algebraic : algebraic_KernelFirstIdeal_ReferenceFirstIdeal_pre_scores_finite_first (hKernelFirstIdeal := KernelFirstIdeal.Gen.facts)
    (hReferenceFirstIdeal := ReferenceFirstIdeal.Gen.facts) (hPre_scores_finite_first := Pre_scores_finite_first.Gen.facts) := by
  intro m ρ m' ρ' hpre hagree
  refine ⟨_, KernelFirstIdeal.Gen.run_sliced m ρ, ?_⟩
  refine (θ_run ReferenceFirstIdeal.defs _ _).mono (fun _ h c => ⟨?_, (h c).2⟩) (ReferenceFirstIdeal.Value.run (F := Ideal) m' ρ')
  rw [(h c).1, KernelFirstIdeal.Gen.array_eq m c]
  obtain ⟨a0, a1, a2⟩ := hagree c
  refine (ReferenceFirstIdeal.Value.result_eq m' c).trans ?_
  rw [a0, a1, a2]
  funext j
  obtain ⟨R, D, rfl⟩ : ∃ (R : Fin 65536) (D : Fin 512), j = ix2 R D := ⟨j 0, j 1, by funext a; match a with | ⟨0, _⟩ => rfl | ⟨1, _⟩ => rfl⟩
  rw [KernelFirstIdeal.Gen.sliced_apply]
  have hW : KernelFirstIdeal.Gen.Written (ix2 (⟨R.val, by omega⟩ : Fin 132096) (⟨D.val, by omega⟩ : Fin 1536)) := by
    show R.val / 128 < 512 ∧ D.val / 512 = 0
    omega
  rw [if_pos hW]
  have key := first_element_eq m hpre c ⟨R.val / 4096, by omega⟩ ⟨R.val % 4096, by omega⟩ ⟨D.val / 256, by omega⟩ ⟨D.val / 64 % 4, by omega⟩
    ⟨D.val % 64, by omega⟩ ⟨R.val, by omega⟩ ⟨D.val, by omega⟩ (by dsimp only; omega) (by dsimp only; omega)
  refine Eq.trans ?_ key.symm
  refine congrArg _ ?_
  funext a
  match a with
  | ⟨0, _⟩ => exact Fin.ext (show R.val = R.val / 4096 * 4096 + R.val % 4096 by omega)
  | ⟨1, _⟩ => exact Fin.ext (show D.val = D.val / 256 * 256 + (D.val / 64 % 4 * 64 + D.val % 64) by omega)

end Cert
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.KernelGlobal
public import proofs.«01_k».proof.Proof.Gen.KernelGlobal.Skeleton
public import proofs.«01_k».proof.Proof.Gen.KernelGlobal.Launch
public import proofs.«01_k».proof.Proof.Gen.KernelGlobal.Points
public import proofs.«01_k».proof.Proof.Gen.KernelGlobal.Frame
public import proofs.«01_k».proof.Proof.Gen.KernelGlobalIdeal
public import proofs.«01_k».proof.Proof.Gen.KernelGlobalIdeal.Skeleton
public import proofs.«01_k».proof.Proof.Gen.KernelGlobalIdeal.Launch
public import proofs.«01_k».proof.Proof.Gen.KernelGlobalIdeal.Points
public import proofs.«01_k».proof.Proof.Gen.KernelGlobalIdeal.Frame
public import proofs.«01_k».proof.Proof.Gen.KernelGlobalIdeal.Value
public import proofs.«01_k».proof.Proof.Gen.ReferenceGlobalIdeal
public import proofs.«01_k».proof.Proof.Gen.ReferenceGlobalIdeal.Run
public import proofs.«01_k».proof.Proof.Gen.KernelMerge
public import proofs.«01_k».proof.Proof.Gen.KernelMerge.Skeleton
public import proofs.«01_k».proof.Proof.Gen.KernelMerge.Launch
public import proofs.«01_k».proof.Proof.Gen.KernelMerge.Points
public import proofs.«01_k».proof.Proof.Gen.KernelMerge.Frame
public import proofs.«01_k».proof.Proof.Gen.KernelMergeIdeal
public import proofs.«01_k».proof.Proof.Gen.KernelMergeIdeal.Skeleton
public import proofs.«01_k».proof.Proof.Gen.KernelMergeIdeal.Launch
public import proofs.«01_k».proof.Proof.Gen.KernelMergeIdeal.Points
public import proofs.«01_k».proof.Proof.Gen.KernelMergeIdeal.Frame
public import proofs.«01_k».proof.Proof.Gen.KernelMergeIdeal.Value
public import proofs.«01_k».proof.Proof.Gen.ReferenceMergeIdeal
public import proofs.«01_k».proof.Proof.Gen.ReferenceMergeIdeal.Run
public import proofs.«01_k».proof.Proof.Gen.KernelFirst
public import proofs.«01_k».proof.Proof.Gen.KernelFirst.Skeleton
public import proofs.«01_k».proof.Proof.Gen.KernelFirst.Launch
public import proofs.«01_k».proof.Proof.Gen.KernelFirst.Points
public import proofs.«01_k».proof.Proof.Gen.KernelFirst.Frame
public import proofs.«01_k».proof.Proof.Gen.KernelFirstIdeal
public import proofs.«01_k».proof.Proof.Gen.KernelFirstIdeal.Skeleton
public import proofs.«01_k».proof.Proof.Gen.KernelFirstIdeal.Launch
public import proofs.«01_k».proof.Proof.Gen.KernelFirstIdeal.Points
public import proofs.«01_k».proof.Proof.Gen.KernelFirstIdeal.Frame
public import proofs.«01_k».proof.Proof.Gen.ReferenceFirstIdeal
public import proofs.«01_k».proof.Proof.Gen.ReferenceFirstIdeal.Run
public import proofs.«01_k».proof.Proof.Gen.Pre_gates_ok
public import proofs.«01_k».proof.Proof.Gen.Pre_scores_finite
public import proofs.«01_k».proof.Proof.Gen.Pre_scores_finite_first
public import proofs.«01_k».proof.Proof.MoeAlgebraic
public import proofs.«01_k».proof.Proof.AttAlgebraic
public import proofs.«01_k».proof.Proof.MergeAlgebraic
public import proofs.«01_k».proof.Proof.FirstAlgebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.KernelGlobal.Gen.facts, Cert.KernelGlobalIdeal.Gen.facts, Cert.ReferenceGlobalIdeal.Gen.facts, Cert.KernelMerge.Gen.facts, Cert.KernelMergeIdeal.Gen.facts, Cert.ReferenceMergeIdeal.Gen.facts, Cert.KernelFirst.Gen.facts, Cert.KernelFirstIdeal.Gen.facts, Cert.ReferenceFirstIdeal.Gen.facts, Cert.Pre_gates_ok.Gen.facts, Cert.Pre_scores_finite.Gen.facts, Cert.Pre_scores_finite_first.Gen.facts,
  fun m ρ _ => Cert.Kernel.Gen.frame m ρ,
  fun m ρ _ => Cert.KernelIdeal.Gen.frame m ρ,
  fun m ρ _ => Cert.KernelIdeal.Gen.frame m ρ,
  fun m ρ _ => (θ_run Cert.ReferenceIdeal.defs _ _).mono (fun r h => ⟨fun c => (h c).2, sem_eq_zero_of_no_sems (by decide) r.2⟩) (Cert.ReferenceIdeal.Value.run (F := Ideal) m ρ),
  fun m ρ _ => (θ_run Cert.ReferenceIdeal.defs _ _).mono (fun r h => ⟨fun c => (h c).2, sem_eq_zero_of_no_sems (by decide) r.2⟩) (Cert.ReferenceIdeal.Value.run (F := Ideal) m ρ),
  fun m ρ _ => Cert.KernelGlobal.Gen.frame m ρ,
  fun m ρ _ => Cert.KernelGlobalIdeal.Gen.frame m ρ,
  fun m ρ _ => Cert.KernelGlobalIdeal.Gen.frame m ρ,
  fun m ρ _ => (θ_run Cert.ReferenceGlobalIdeal.defs _ _).mono (fun r h => ⟨fun c => (h c).2, sem_eq_zero_of_no_sems (by decide) r.2⟩) (Cert.ReferenceGlobalIdeal.Value.run (F := Ideal) m ρ),
  fun m ρ _ => (θ_run Cert.ReferenceGlobalIdeal.defs _ _).mono (fun r h => ⟨fun c => (h c).2, sem_eq_zero_of_no_sems (by decide) r.2⟩) (Cert.ReferenceGlobalIdeal.Value.run (F := Ideal) m ρ),
  fun m ρ _ => Cert.KernelMerge.Gen.frame m ρ,
  fun m ρ _ => Cert.KernelMergeIdeal.Gen.frame m ρ,
  fun m ρ _ => (θ_run Cert.ReferenceMergeIdeal.defs _ _).mono (fun r h => ⟨fun c => (h c).2, sem_eq_zero_of_no_sems (by decide) r.2⟩) (Cert.ReferenceMergeIdeal.Value.run (F := Ideal) m ρ),
  fun m ρ _ => Cert.KernelFirst.Gen.frame m ρ,
  fun m ρ _ => Cert.KernelFirstIdeal.Gen.frame m ρ,
  fun m ρ _ => Cert.KernelFirstIdeal.Gen.frame m ρ,
  fun m ρ _ => (θ_run Cert.ReferenceFirstIdeal.defs _ _).mono (fun r h => ⟨fun c => (h c).2, sem_eq_zero_of_no_sems (by decide) r.2⟩) (Cert.ReferenceFirstIdeal.Value.run (F := Ideal) m ρ),
  fun m ρ _ => (θ_run Cert.ReferenceFirstIdeal.defs _ _).mono (fun r h => ⟨fun c => (h c).2, sem_eq_zero_of_no_sems (by decide) r.2⟩) (Cert.ReferenceFirstIdeal.Value.run (F := Ideal) m ρ),
  trivial,
  Cert.moe_algebraic,
  trivial,
  Cert.att_algebraic,
  trivial,
  Cert.merge_algebraic,
  trivial,
  Cert.first_algebraic⟩

end Cert.Proof

end
